-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S4096x8192 : Shape := ⟨2, ![4096, 8192]⟩
abbrev S3x1024x4096 : Shape := ⟨3, ![3, 1024, 4096]⟩
abbrev S1024x2048 : Shape := ⟨2, ![1024, 2048]⟩
abbrev S1x128 : Shape := ⟨2, ![1, 128]⟩
abbrev S4x128 : Shape := ⟨2, ![4, 128]⟩
abbrev S2 : Shape := ⟨1, ![2]⟩
abbrev S6 : Shape := ⟨1, ![6]⟩
abbrev S3 : Shape := ⟨1, ![3]⟩
abbrev S_ : Shape := ⟨0, ![]⟩
abbrev S1024x1024 : Shape := ⟨2, ![1024, 1024]⟩
abbrev S1 : Shape := ⟨1, ![1]⟩
abbrev S1x1024x2048 : Shape := ⟨3, ![1, 1024, 2048]⟩
abbrev S1x1x1 : Shape := ⟨3, ![1, 1, 1]⟩
abbrev S1x4x128 : Shape := ⟨3, ![1, 4, 128]⟩
abbrev S1024x4096 : Shape := ⟨2, ![1024, 4096]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x8192, .bf16⟩
  | .hbm, ⟨2, _⟩ => ⟨S4096x8192, .bf16⟩
  | .hbm, ⟨3, _⟩ => ⟨S4096x8192, .bf16⟩
  | .hbm, ⟨4, _⟩ => ⟨S3x1024x4096, .bf16⟩
  | .hbm, ⟨5, _⟩ => ⟨S3x1024x4096, .bf16⟩
  | .hbm, ⟨6, _⟩ => ⟨S4096x8192, .i8⟩
  | .local _ .vmem, ⟨0, _⟩ => ⟨S4096x1024, .bf16⟩
  | .local _ .vmem, ⟨1, _⟩ => ⟨S1024x8192, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .i8⟩
  | .local _ .vmem, ⟨5, _⟩ => ⟨S1x128, .f32⟩
  | .local _ .vmem, ⟨6, _⟩ => ⟨S4x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 1 46 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v1_4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15 : BitVec 32 := 1#32
  let v30 : BitVec 32 := Scalar.muli v13 c1_i32_15
  let v31 : BitVec 32 := Scalar.addi c0_i32_16 v30
  v31.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_18 : BitVec 32 := 1#32
  let v32 : BitVec 32 := Scalar.muli v24 c1_i32_18
  let v33 : BitVec 32 := Scalar.addi c0_i32_19 v32
  v33.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_218 : BitVec 32 := 1#32
  let v274 : BitVec 32 := Scalar.subi v2 c1_i32_218
  let c4_i32_219 : BitVec 32 := 4#32
  let c0_i32_220 : BitVec 32 := 0#32
  let v275 : BitVec 1 := Scalar.cmpi .eq c4_i32_219 c0_i32_220
  let c1_i32_221 : BitVec 32 := 1#32
  let v276 : BitVec 32 := Scalar.select v275 c1_i32_221 c4_i32_219
  let v277 : BitVec 32 := Scalar.remsi v274 v276
  let c0_i32_223 : BitVec 32 := 0#32
  let v279 : BitVec 1 := Scalar.cmpi .slt v277 c0_i32_223
  let c0_i32_224 : BitVec 32 := 0#32
  let v280 : BitVec 1 := Scalar.cmpi .slt v276 c0_i32_224
  let v281 : BitVec 1 := Scalar.xori v279 v280
  let c0_i32_222 : BitVec 32 := 0#32
  let v278 : BitVec 1 := Scalar.cmpi .ne v277 c0_i32_222
  let v282 : BitVec 1 := Scalar.andi v281 v278
  let v283 : BitVec 32 := Scalar.addi v277 v276
  let v284 : BitVec 32 := Scalar.select v282 v283 v277
  let c1024_i32_225 : BitVec 32 := 1024#32
  let v285 : BitVec 32 := Scalar.muli v284 c1024_i32_225
  let c0_i32_233 : BitVec 32 := 0#32
  ![v285.toNat, 0]
def k0_dev3 (d0 : Dev nD) : Nat :=
  let c0_i32_230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_229 : BitVec 32 := 1#32
  let v286 : BitVec 32 := Scalar.muli v24 c1_i32_229
  let v287 : BitVec 32 := Scalar.addi c0_i32_230 v286
  v287.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_234 : BitVec 32 := 1#32
  let v295 : BitVec 32 := Scalar.addi v2 c1_i32_234
  let c4_i32_235 : BitVec 32 := 4#32
  let c0_i32_236 : BitVec 32 := 0#32
  let v296 : BitVec 1 := Scalar.cmpi .eq c4_i32_235 c0_i32_236
  let c1_i32_237 : BitVec 32 := 1#32
  let v297 : BitVec 32 := Scalar.select v296 c1_i32_237 c4_i32_235
  let v298 : BitVec 32 := Scalar.remsi v295 v297
  let c0_i32_239 : BitVec 32 := 0#32
  let v300 : BitVec 1 := Scalar.cmpi .slt v298 c0_i32_239
  let c0_i32_240 : BitVec 32 := 0#32
  let v301 : BitVec 1 := Scalar.cmpi .slt v297 c0_i32_240
  let v302 : BitVec 1 := Scalar.xori v300 v301
  let c0_i32_238 : BitVec 32 := 0#32
  let v299 : BitVec 1 := Scalar.cmpi .ne v298 c0_i32_238
  let v303 : BitVec 1 := Scalar.andi v302 v299
  let v304 : BitVec 32 := Scalar.addi v298 v297
  let v305 : BitVec 32 := Scalar.select v303 v304 v298
  let c1024_i32_241 : BitVec 32 := 1024#32
  let v306 : BitVec 32 := Scalar.muli v305 c1024_i32_241
  let c4096_i32_249 : BitVec 32 := 4096#32
  ![v306.toNat, 4096]
def k0_dev4 (d0 : Dev nD) : Nat :=
  let c0_i32_246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_245 : BitVec 32 := 1#32
  let v307 : BitVec 32 := Scalar.muli v13 c1_i32_245
  let v308 : BitVec 32 := Scalar.addi c0_i32_246 v307
  v308.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_250 : BitVec 32 := 1#32
  let v316 : BitVec 32 := Scalar.subi v2 c1_i32_250
  let c4_i32_251 : BitVec 32 := 4#32
  let c0_i32_252 : BitVec 32 := 0#32
  let v317 : BitVec 1 := Scalar.cmpi .eq c4_i32_251 c0_i32_252
  let c1_i32_253 : BitVec 32 := 1#32
  let v318 : BitVec 32 := Scalar.select v317 c1_i32_253 c4_i32_251
  let v319 : BitVec 32 := Scalar.remsi v316 v318
  let c0_i32_255 : BitVec 32 := 0#32
  let v321 : BitVec 1 := Scalar.cmpi .slt v319 c0_i32_255
  let c0_i32_256 : BitVec 32 := 0#32
  let v322 : BitVec 1 := Scalar.cmpi .slt v318 c0_i32_256
  let v323 : BitVec 1 := Scalar.xori v321 v322
  let c0_i32_254 : BitVec 32 := 0#32
  let v320 : BitVec 1 := Scalar.cmpi .ne v319 c0_i32_254
  let v324 : BitVec 1 := Scalar.andi v323 v320
  let v325 : BitVec 32 := Scalar.addi v319 v318
  let v326 : BitVec 32 := Scalar.select v324 v325 v319
  let c1024_i32_257 : BitVec 32 := 1024#32
  let v327 : BitVec 32 := Scalar.muli v326 c1024_i32_257
  let c2048_i32_265 : BitVec 32 := 2048#32
  ![v327.toNat, 2048]
def k0_dev5 (d0 : Dev nD) : Nat :=
  let c0_i32_262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_261 : BitVec 32 := 1#32
  let v328 : BitVec 32 := Scalar.muli v24 c1_i32_261
  let v329 : BitVec 32 := Scalar.addi c0_i32_262 v328
  v329.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_266 : BitVec 32 := 1#32
  let v337 : BitVec 32 := Scalar.addi v2 c1_i32_266
  let c4_i32_267 : BitVec 32 := 4#32
  let c0_i32_268 : BitVec 32 := 0#32
  let v338 : BitVec 1 := Scalar.cmpi .eq c4_i32_267 c0_i32_268
  let c1_i32_269 : BitVec 32 := 1#32
  let v339 : BitVec 32 := Scalar.select v338 c1_i32_269 c4_i32_267
  let v340 : BitVec 32 := Scalar.remsi v337 v339
  let c0_i32_271 : BitVec 32 := 0#32
  let v342 : BitVec 1 := Scalar.cmpi .slt v340 c0_i32_271
  let c0_i32_272 : BitVec 32 := 0#32
  let v343 : BitVec 1 := Scalar.cmpi .slt v339 c0_i32_272
  let v344 : BitVec 1 := Scalar.xori v342 v343
  let c0_i32_270 : BitVec 32 := 0#32
  let v341 : BitVec 1 := Scalar.cmpi .ne v340 c0_i32_270
  let v345 : BitVec 1 := Scalar.andi v344 v341
  let v346 : BitVec 32 := Scalar.addi v340 v339
  let v347 : BitVec 32 := Scalar.select v345 v346 v340
  let c1024_i32_273 : BitVec 32 := 1024#32
  let v348 : BitVec 32 := Scalar.muli v347 c1024_i32_273
  let c6144_i32_281 : BitVec 32 := 6144#32
  ![v348.toNat, 6144]
def k0_dev6 (d0 : Dev nD) : Nat :=
  let c0_i32_278 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_277 : BitVec 32 := 1#32
  let v349 : BitVec 32 := Scalar.muli v13 c1_i32_277
  let v350 : BitVec 32 := Scalar.addi c0_i32_278 v349
  v350.toNat
def k0_off5 (d0 : Dev nD) (c2_i32_282 : BitVec 32) (c0_i32_283 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v358 : BitVec 32 := Scalar.subi v2 c2_i32_282
  let v359 : BitVec 32 := Scalar.subi v358 c0_i32_283
  let c4_i32_284 : BitVec 32 := 4#32
  let c0_i32_285 : BitVec 32 := 0#32
  let v360 : BitVec 1 := Scalar.cmpi .eq c4_i32_284 c0_i32_285
  let c1_i32_286 : BitVec 32 := 1#32
  let v361 : BitVec 32 := Scalar.select v360 c1_i32_286 c4_i32_284
  let v362 : BitVec 32 := Scalar.remsi v359 v361
  let c0_i32_288 : BitVec 32 := 0#32
  let v364 : BitVec 1 := Scalar.cmpi .slt v362 c0_i32_288
  let c0_i32_289 : BitVec 32 := 0#32
  let v365 : BitVec 1 := Scalar.cmpi .slt v361 c0_i32_289
  let v366 : BitVec 1 := Scalar.xori v364 v365
  let c0_i32_287 : BitVec 32 := 0#32
  let v363 : BitVec 1 := Scalar.cmpi .ne v362 c0_i32_287
  let v367 : BitVec 1 := Scalar.andi v366 v363
  let v368 : BitVec 32 := Scalar.addi v362 v361
  let v369 : BitVec 32 := Scalar.select v367 v368 v362
  let c1024_i32_314 : BitVec 32 := 1024#32
  let v397 : BitVec 32 := Scalar.muli v369 c1024_i32_314
  let c0_i32_316 : BitVec 32 := 0#32
  ![v397.toNat, 0]
def k0_dev7 (d0 : Dev nD) : Nat :=
  let c0_i32_338 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_337 : BitVec 32 := 1#32
  let v421 : BitVec 32 := Scalar.muli v24 c1_i32_337
  let v422 : BitVec 32 := Scalar.addi c0_i32_338 v421
  v422.toNat
def k0_off6 (d0 : Dev nD) (c2_i32_290 : BitVec 32) (c0_i32_291 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v370 : BitVec 32 := Scalar.addi v2 c2_i32_290
  let v371 : BitVec 32 := Scalar.addi v370 c0_i32_291
  let c4_i32_292 : BitVec 32 := 4#32
  let c0_i32_293 : BitVec 32 := 0#32
  let v372 : BitVec 1 := Scalar.cmpi .eq c4_i32_292 c0_i32_293
  let c1_i32_294 : BitVec 32 := 1#32
  let v373 : BitVec 32 := Scalar.select v372 c1_i32_294 c4_i32_292
  let v374 : BitVec 32 := Scalar.remsi v371 v373
  let c0_i32_296 : BitVec 32 := 0#32
  let v376 : BitVec 1 := Scalar.cmpi .slt v374 c0_i32_296
  let c0_i32_297 : BitVec 32 := 0#32
  let v377 : BitVec 1 := Scalar.cmpi .slt v373 c0_i32_297
  let v378 : BitVec 1 := Scalar.xori v376 v377
  let c0_i32_295 : BitVec 32 := 0#32
  let v375 : BitVec 1 := Scalar.cmpi .ne v374 c0_i32_295
  let v379 : BitVec 1 := Scalar.andi v378 v375
  let v380 : BitVec 32 := Scalar.addi v374 v373
  let v381 : BitVec 32 := Scalar.select v379 v380 v374
  let c1024_i32_359 : BitVec 32 := 1024#32
  let v446 : BitVec 32 := Scalar.muli v381 c1024_i32_359
  let c4096_i32_361 : BitVec 32 := 4096#32
  ![v446.toNat, 4096]
def k0_dev8 (d0 : Dev nD) : Nat :=
  let c0_i32_383 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_382 : BitVec 32 := 1#32
  let v470 : BitVec 32 := Scalar.muli v13 c1_i32_382
  let v471 : BitVec 32 := Scalar.addi c0_i32_383 v470
  v471.toNat
def k0_off7 (d0 : Dev nD) (c2_i32_282 : BitVec 32) (c0_i32_283 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v358 : BitVec 32 := Scalar.subi v2 c2_i32_282
  let v359 : BitVec 32 := Scalar.subi v358 c0_i32_283
  let c4_i32_284 : BitVec 32 := 4#32
  let c0_i32_285 : BitVec 32 := 0#32
  let v360 : BitVec 1 := Scalar.cmpi .eq c4_i32_284 c0_i32_285
  let c1_i32_286 : BitVec 32 := 1#32
  let v361 : BitVec 32 := Scalar.select v360 c1_i32_286 c4_i32_284
  let v362 : BitVec 32 := Scalar.remsi v359 v361
  let c0_i32_288 : BitVec 32 := 0#32
  let v364 : BitVec 1 := Scalar.cmpi .slt v362 c0_i32_288
  let c0_i32_289 : BitVec 32 := 0#32
  let v365 : BitVec 1 := Scalar.cmpi .slt v361 c0_i32_289
  let v366 : BitVec 1 := Scalar.xori v364 v365
  let c0_i32_287 : BitVec 32 := 0#32
  let v363 : BitVec 1 := Scalar.cmpi .ne v362 c0_i32_287
  let v367 : BitVec 1 := Scalar.andi v366 v363
  let v368 : BitVec 32 := Scalar.addi v362 v361
  let v369 : BitVec 32 := Scalar.select v367 v368 v362
  let c1024_i32_404 : BitVec 32 := 1024#32
  let v495 : BitVec 32 := Scalar.muli v369 c1024_i32_404
  let c2048_i32_406 : BitVec 32 := 2048#32
  ![v495.toNat, 2048]
def k0_dev9 (d0 : Dev nD) : Nat :=
  let c0_i32_427 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_426 : BitVec 32 := 1#32
  let v519 : BitVec 32 := Scalar.muli v24 c1_i32_426
  let v520 : BitVec 32 := Scalar.addi c0_i32_427 v519
  v520.toNat
def k0_off8 (d0 : Dev nD) (c2_i32_290 : BitVec 32) (c0_i32_291 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v370 : BitVec 32 := Scalar.addi v2 c2_i32_290
  let v371 : BitVec 32 := Scalar.addi v370 c0_i32_291
  let c4_i32_292 : BitVec 32 := 4#32
  let c0_i32_293 : BitVec 32 := 0#32
  let v372 : BitVec 1 := Scalar.cmpi .eq c4_i32_292 c0_i32_293
  let c1_i32_294 : BitVec 32 := 1#32
  let v373 : BitVec 32 := Scalar.select v372 c1_i32_294 c4_i32_292
  let v374 : BitVec 32 := Scalar.remsi v371 v373
  let c0_i32_296 : BitVec 32 := 0#32
  let v376 : BitVec 1 := Scalar.cmpi .slt v374 c0_i32_296
  let c0_i32_297 : BitVec 32 := 0#32
  let v377 : BitVec 1 := Scalar.cmpi .slt v373 c0_i32_297
  let v378 : BitVec 1 := Scalar.xori v376 v377
  let c0_i32_295 : BitVec 32 := 0#32
  let v375 : BitVec 1 := Scalar.cmpi .ne v374 c0_i32_295
  let v379 : BitVec 1 := Scalar.andi v378 v375
  let v380 : BitVec 32 := Scalar.addi v374 v373
  let v381 : BitVec 32 := Scalar.select v379 v380 v374
  let c1024_i32_448 : BitVec 32 := 1024#32
  let v544 : BitVec 32 := Scalar.muli v381 c1024_i32_448
  let c6144_i32_450 : BitVec 32 := 6144#32
  ![v544.toNat, 6144]
def k0_dev10 (d0 : Dev nD) : Nat :=
  let c0_i32_472 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_471 : BitVec 32 := 1#32
  let v568 : BitVec 32 := Scalar.muli v13 c1_i32_471
  let v569 : BitVec 32 := Scalar.addi c0_i32_472 v568
  v569.toNat
def k0_dev11 (d0 : Dev nD) : Nat :=
  let c0_i32_535 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_534 : BitVec 32 := 1#32
  let v642 : BitVec 32 := Scalar.muli v24 c1_i32_534
  let v643 : BitVec 32 := Scalar.addi c0_i32_535 v642
  v643.toNat
def k0_dev12 (d0 : Dev nD) : Nat :=
  let c0_i32_582 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_581 : BitVec 32 := 1#32
  let v692 : BitVec 32 := Scalar.muli v13 c1_i32_581
  let v693 : BitVec 32 := Scalar.addi c0_i32_582 v692
  v693.toNat
def k0_dev13 (d0 : Dev nD) : Nat :=
  let c0_i32_628 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_627 : BitVec 32 := 1#32
  let v742 : BitVec 32 := Scalar.muli v24 c1_i32_627
  let v743 : BitVec 32 := Scalar.addi c0_i32_628 v742
  v743.toNat
def k0_dev14 (d0 : Dev nD) : Nat :=
  let c0_i32_675 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_674 : BitVec 32 := 1#32
  let v792 : BitVec 32 := Scalar.muli v13 c1_i32_674
  let v793 : BitVec 32 := Scalar.addi c0_i32_675 v792
  v793.toNat
def k0_dev15 (d0 : Dev nD) : Nat :=
  let c0_i32_957 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_956 : BitVec 32 := 1#32
  let v1085 : BitVec 32 := Scalar.muli v24 c1_i32_956
  let v1086 : BitVec 32 := Scalar.addi c0_i32_957 v1085
  v1086.toNat
def k0_dev16 (d0 : Dev nD) : Nat :=
  let c0_i32_974 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_973 : BitVec 32 := 1#32
  let v1100 : BitVec 32 := Scalar.muli v24 c1_i32_973
  let v1101 : BitVec 32 := Scalar.addi c0_i32_974 v1100
  v1101.toNat
def k0_dev17 (d0 : Dev nD) : Nat :=
  let c0_i32_997 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_996 : BitVec 32 := 1#32
  let v1118 : BitVec 32 := Scalar.muli v24 c1_i32_996
  let v1119 : BitVec 32 := Scalar.addi c0_i32_997 v1118
  v1119.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_1036 : BitVec 32 := 1024#32
  let v1165 : BitVec 32 := Scalar.muli v2 c1024_i32_1036
  let c0_i32_1038 : BitVec 32 := 0#32
  ![v1165.toNat, 0]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_1062 : BitVec 32 := 1024#32
  let v1206 : BitVec 32 := Scalar.muli v2 c1024_i32_1062
  let c2048_i32_1064 : BitVec 32 := 2048#32
  ![v1206.toNat, 2048]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_1088 : BitVec 32 := 1024#32
  let v1247 : BitVec 32 := Scalar.muli v2 c1024_i32_1088
  let c4096_i32_1090 : BitVec 32 := 4096#32
  ![v1247.toNat, 4096]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_1114 : BitVec 32 := 1024#32
  let v1288 : BitVec 32 := Scalar.muli v2 c1024_i32_1114
  let c6144_i32_1116 : BitVec 32 := 6144#32
  ![v1288.toNat, 6144]
def k0_off13 (d0 : Dev nD) (c0_i32_1126 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1308 : BitVec 32 := Scalar.subi v2 c0_i32_1126
  let c4_i32_1127 : BitVec 32 := 4#32
  let c0_i32_1128 : BitVec 32 := 0#32
  let v1309 : BitVec 1 := Scalar.cmpi .eq c4_i32_1127 c0_i32_1128
  let c1_i32_1129 : BitVec 32 := 1#32
  let v1310 : BitVec 32 := Scalar.select v1309 c1_i32_1129 c4_i32_1127
  let v1311 : BitVec 32 := Scalar.remsi v1308 v1310
  let c0_i32_1131 : BitVec 32 := 0#32
  let v1313 : BitVec 1 := Scalar.cmpi .slt v1311 c0_i32_1131
  let c0_i32_1132 : BitVec 32 := 0#32
  let v1314 : BitVec 1 := Scalar.cmpi .slt v1310 c0_i32_1132
  let v1315 : BitVec 1 := Scalar.xori v1313 v1314
  let c0_i32_1130 : BitVec 32 := 0#32
  let v1312 : BitVec 1 := Scalar.cmpi .ne v1311 c0_i32_1130
  let v1316 : BitVec 1 := Scalar.andi v1315 v1312
  let v1317 : BitVec 32 := Scalar.addi v1311 v1310
  let v1318 : BitVec 32 := Scalar.select v1316 v1317 v1311
  let c1024_i32_1133 : BitVec 32 := 1024#32
  let v1319 : BitVec 32 := Scalar.muli v1318 c1024_i32_1133
  let c0_i32_1146 : BitVec 32 := 0#32
  ![v1319.toNat, 0]
def k0_dev18 (d0 : Dev nD) : Nat :=
  let c0_i32_1145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1144 : BitVec 32 := 1#32
  let v1332 : BitVec 32 := Scalar.muli v24 c1_i32_1144
  let v1333 : BitVec 32 := Scalar.addi c0_i32_1145 v1332
  v1333.toNat
def k0_off14 (d0 : Dev nD) (c0_i32_1134 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1320 : BitVec 32 := Scalar.addi v2 c0_i32_1134
  let c4_i32_1135 : BitVec 32 := 4#32
  let c0_i32_1136 : BitVec 32 := 0#32
  let v1321 : BitVec 1 := Scalar.cmpi .eq c4_i32_1135 c0_i32_1136
  let c1_i32_1137 : BitVec 32 := 1#32
  let v1322 : BitVec 32 := Scalar.select v1321 c1_i32_1137 c4_i32_1135
  let v1323 : BitVec 32 := Scalar.remsi v1320 v1322
  let c0_i32_1139 : BitVec 32 := 0#32
  let v1325 : BitVec 1 := Scalar.cmpi .slt v1323 c0_i32_1139
  let c0_i32_1140 : BitVec 32 := 0#32
  let v1326 : BitVec 1 := Scalar.cmpi .slt v1322 c0_i32_1140
  let v1327 : BitVec 1 := Scalar.xori v1325 v1326
  let c0_i32_1138 : BitVec 32 := 0#32
  let v1324 : BitVec 1 := Scalar.cmpi .ne v1323 c0_i32_1138
  let v1328 : BitVec 1 := Scalar.andi v1327 v1324
  let v1329 : BitVec 32 := Scalar.addi v1323 v1322
  let v1330 : BitVec 32 := Scalar.select v1328 v1329 v1323
  let c1024_i32_1141 : BitVec 32 := 1024#32
  let v1331 : BitVec 32 := Scalar.muli v1330 c1024_i32_1141
  let c4096_i32_1152 : BitVec 32 := 4096#32
  ![v1331.toNat, 4096]
def k0_dev19 (d0 : Dev nD) : Nat :=
  let c0_i32_1151 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1150 : BitVec 32 := 1#32
  let v1340 : BitVec 32 := Scalar.muli v13 c1_i32_1150
  let v1341 : BitVec 32 := Scalar.addi c0_i32_1151 v1340
  v1341.toNat
def k0_dev20 (d0 : Dev nD) : Nat :=
  let c0_i32_1195 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1194 : BitVec 32 := 1#32
  let v1392 : BitVec 32 := Scalar.muli v24 c1_i32_1194
  let v1393 : BitVec 32 := Scalar.addi c0_i32_1195 v1392
  v1393.toNat
def k0_dev21 (d0 : Dev nD) : Nat :=
  let c0_i32_1201 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1200 : BitVec 32 := 1#32
  let v1400 : BitVec 32 := Scalar.muli v13 c1_i32_1200
  let v1401 : BitVec 32 := Scalar.addi c0_i32_1201 v1400
  v1401.toNat
def k0_dev22 (d0 : Dev nD) : Nat :=
  let c0_i32_1311 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1310 : BitVec 32 := 1#32
  let v1558 : BitVec 32 := Scalar.muli v24 c1_i32_1310
  let v1559 : BitVec 32 := Scalar.addi c0_i32_1311 v1558
  v1559.toNat
def k0_dev23 (d0 : Dev nD) : Nat :=
  let c0_i32_1317 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1316 : BitVec 32 := 1#32
  let v1566 : BitVec 32 := Scalar.muli v13 c1_i32_1316
  let v1567 : BitVec 32 := Scalar.addi c0_i32_1317 v1566
  v1567.toNat
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | .hbm, ⟨24, _⟩ => ⟨S4096x8192, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Proof.Program.lean ====
/-
  The kernel as a short structured program: the product by tiles, the reduce-scatter in both
  directions of the ring, the ring of maxima, the quantiser and the all-gather, each written once
  over its tile, hop or direction.  `body_eq` says that the printed body is this program.
-/
module

public import proofs.«01_k».proof.Proof.Gen.KernelIdeal.Skeleton

@[expose] public section

set_option maxRecDepth 16384
set_option synthInstance.maxSize 4096

noncomputable section

namespace Cert.KernelIdeal.Work

open Idealize.ShloMosaic Idealize.SL.Sem
open Cert.KernelIdeal.Gen

variable {F : FTy → Type} [FloatOps F]

/-- Programs of a TensorCore. -/
abbrev TcProg (F : FTy → Type) (α : Type) := Prog (TpuEff nD τ sig (Elt F) Λ₀ .tc) α

/-! ## Views -/

/-- A memref with the evidence a transfer asks of it. -/
structure Tl (sp : Space) (s : Shape) (e : EltTy) where
  /-- The memref. -/
  m : Memref sig .tc sp s e
  /-- It cuts no word of its buffer. -/
  ok : m.view.WordExact

/-- A whole buffer as a transfer's end. -/
abbrev Tl.whole (b : Ref sig .tc) : Tl b.space b.ty.shape b.ty.elt := ⟨Memref.whole b, (Memref.isWhole_whole b).wordExact⟩

/-- The three staging tiles in VMEM. -/
abbrev ta : Tl .vmem S1024x2048 .bf16 := Tl.whole cc0_scratch0
abbrev tb : Tl .vmem S1024x2048 .bf16 := Tl.whole cc0_scratch1
abbrev tq : Tl .vmem S1024x2048 .i8 := Tl.whole cc0_scratch2

/-- A 1024 by 2048 tile of a 4096 by 8192 array in HBM. -/
abbrev cut {e : EltTy} (b : Memref sig .tc .hbm S4096x8192 e) (hb : b.IsWhole) (off : Fin 2 → Nat)
    (h : ∀ a, off a + S1024x2048.size a ≤ S4096x8192.size a)
    (hw : (Rect.unit (s := S4096x8192) off S1024x2048.size h).WholeWords (EltTy.packing e)) : Tl .hbm S1024x2048 e :=
  ⟨b.slice (Rect.unit (s := S4096x8192) off S1024x2048.size h) (fun _ => rfl), hb.wordExact_slice rfl _ hw⟩

abbrev bOut : Memref sig .tc .hbm S4096x8192 .bf16 := Memref.whole main_v1_0
abbrev bAcc : Memref sig .tc .hbm S4096x8192 .bf16 := Memref.whole main_v1_1
abbrev bQ : Memref sig .tc .hbm S4096x8192 .i8 := Memref.whole main_v1_4

theorem tile_inb : ∀ (r k : Fin 4) a, (![1024 * r.val, 2048 * k.val] : Fin 2 → Nat) a + S1024x2048.size a ≤ S4096x8192.size a := by decide
theorem tile_words : ∀ (r k : Fin 4), (Rect.unit (s := S4096x8192) ![1024 * r.val, 2048 * k.val] S1024x2048.size (tile_inb r k)).WholeWords (EltTy.packing .bf16) := by
  decide +kernel

/-- Tile `(r, k)` of the product's array. -/
abbrev accT (r k : Fin 4) : Tl .hbm S1024x2048 .bf16 :=
  cut bAcc (Memref.isWhole_whole _) ![1024 * r.val, 2048 * k.val] (tile_inb r k) (tile_words r k)

theorem slot_inb : ∀ (s : Fin 3) (p : Fin 2) a, (![s.val, 0, 2048 * p.val] : Fin 3 → Nat) a + S1x1024x2048.size a ≤ S3x1024x4096.size a := by decide
theorem slot_words : ∀ (s : Fin 3) (p : Fin 2), (Rect.unit (s := S3x1024x4096) ![s.val, 0, 2048 * p.val] S1x1024x2048.size (slot_inb s p)).WholeWords (EltTy.packing .bf16) := by
  decide +kernel

/-- The receive buffer of a direction: 0 for what comes from the left, 1 for what comes from the right. -/
abbrev rbuf (d : Fin 2) : Ref sig .tc := match d with | 0 => main_v1_2 | 1 => main_v1_3

/-- Slot `s`, half `p` of a receive buffer. -/
abbrev slot (d : Fin 2) (s : Fin 3) (p : Fin 2) : Tl .hbm S1024x2048 .bf16 := match d with
  | 0 => ⟨((Memref.whole main_v1_2).slice (Rect.unit (s := S3x1024x4096) ![s.val, 0, 2048 * p.val] S1x1024x2048.size (slot_inb s p)) (fun _ => rfl)).squeeze S1024x2048 squeezes_S1x1024x2048_S1024x2048,
      ((Memref.isWhole_whole _).wordExact_slice rfl _ (slot_words s p)).reshape _ _⟩
  | 1 => ⟨((Memref.whole main_v1_3).slice (Rect.unit (s := S3x1024x4096) ![s.val, 0, 2048 * p.val] S1x1024x2048.size (slot_inb s p)) (fun _ => rfl)).squeeze S1024x2048 squeezes_S1x1024x2048_S1024x2048,
      ((Memref.isWhole_whole _).wordExact_slice rfl _ (slot_words s p)).reshape _ _⟩

/-- The tile of its own product a device sends first, by direction and half. -/
abbrev accFirst (c : Dev nD) (d p : Fin 2) : Tl .hbm S1024x2048 .bf16 := match d, p with
  | 0, 0 => cut bAcc (Memref.isWhole_whole _) (k0_off1 c) (k0_off1_inb c) (k0_off1_wordsbf16 c)
  | 1, 0 => cut bAcc (Memref.isWhole_whole _) (k0_off2 c) (k0_off2_inb c) (k0_off2_wordsbf16 c)
  | 0, 1 => cut bAcc (Memref.isWhole_whole _) (k0_off3 c) (k0_off3_inb c) (k0_off3_wordsbf16 c)
  | 1, 1 => cut bAcc (Memref.isWhole_whole _) (k0_off4 c) (k0_off4_inb c) (k0_off4_wordsbf16 c)

/-- The tile of its own product a device adds at hop `s`. -/
abbrev accHop (c : Dev nD) (d p : Fin 2) (s : Fin 3) : Tl .hbm S1024x2048 .bf16 := match d, p with
  | 0, 0 => cut bAcc (Memref.isWhole_whole _) (k0_off5 c (BitVec.ofNat 32 (1 + (1 : Fin 2).val)) (BitVec.ofNat 32 s.val)) (k0_off5_inb c 1 s) (k0_off5_wordsbf16 c 1 s)
  | 1, 0 => cut bAcc (Memref.isWhole_whole _) (k0_off6 c (BitVec.ofNat 32 (1 + (1 : Fin 2).val)) (BitVec.ofNat 32 s.val)) (k0_off6_inb c 1 s) (k0_off6_wordsbf16 c 1 s)
  | 0, 1 => cut bAcc (Memref.isWhole_whole _) (k0_off7 c (BitVec.ofNat 32 (1 + (1 : Fin 2).val)) (BitVec.ofNat 32 s.val)) (k0_off7_inb c 1 s) (k0_off7_wordsbf16 c 1 s)
  | 1, 1 => cut bAcc (Memref.isWhole_whole _) (k0_off8 c (BitVec.ofNat 32 (1 + (1 : Fin 2).val)) (BitVec.ofNat 32 s.val)) (k0_off8_inb c 1 s) (k0_off8_wordsbf16 c 1 s)

/-- The tiles of the quantised rows and of the result a device reads and writes after round `s` of the gather. -/
abbrev qGot (c : Dev nD) (d p : Fin 2) (s : Fin 3) : Tl .hbm S1024x2048 .i8 := match d, p with
  | 0, 0 => cut bQ (Memref.isWhole_whole _) (k0_off5 c (BitVec.ofNat 32 (1 + (0 : Fin 2).val)) (BitVec.ofNat 32 s.val)) (k0_off5_inb c 0 s) (k0_off5_wordsi8 c 0 s)
  | 1, 0 => cut bQ (Memref.isWhole_whole _) (k0_off6 c (BitVec.ofNat 32 (1 + (0 : Fin 2).val)) (BitVec.ofNat 32 s.val)) (k0_off6_inb c 0 s) (k0_off6_wordsi8 c 0 s)
  | 0, 1 => cut bQ (Memref.isWhole_whole _) (k0_off7 c (BitVec.ofNat 32 (1 + (0 : Fin 2).val)) (BitVec.ofNat 32 s.val)) (k0_off7_inb c 0 s) (k0_off7_wordsi8 c 0 s)
  | 1, 1 => cut bQ (Memref.isWhole_whole _) (k0_off8 c (BitVec.ofNat 32 (1 + (0 : Fin 2).val)) (BitVec.ofNat 32 s.val)) (k0_off8_inb c 0 s) (k0_off8_wordsi8 c 0 s)

abbrev outGot (c : Dev nD) (d p : Fin 2) (s : Fin 3) : Tl .hbm S1024x2048 .bf16 := match d, p with
  | 0, 0 => cut bOut (Memref.isWhole_whole _) (k0_off5 c (BitVec.ofNat 32 (1 + (0 : Fin 2).val)) (BitVec.ofNat 32 s.val)) (k0_off5_inb c 0 s) (k0_off5_wordsbf16 c 0 s)
  | 1, 0 => cut bOut (Memref.isWhole_whole _) (k0_off6 c (BitVec.ofNat 32 (1 + (0 : Fin 2).val)) (BitVec.ofNat 32 s.val)) (k0_off6_inb c 0 s) (k0_off6_wordsbf16 c 0 s)
  | 0, 1 => cut bOut (Memref.isWhole_whole _) (k0_off7 c (BitVec.ofNat 32 (1 + (0 : Fin 2).val)) (BitVec.ofNat 32 s.val)) (k0_off7_inb c 0 s) (k0_off7_wordsbf16 c 0 s)
  | 1, 1 => cut bOut (Memref.isWhole_whole _) (k0_off8 c (BitVec.ofNat 32 (1 + (0 : Fin 2).val)) (BitVec.ofNat 32 s.val)) (k0_off8_inb c 0 s) (k0_off8_wordsbf16 c 0 s)

/-- The device's own row of the quantised array and of the result, by direction and half. -/
abbrev qOwn (c : Dev nD) (d p : Fin 2) : Tl .hbm S1024x2048 .i8 := match d, p with
  | 0, 0 => cut bQ (Memref.isWhole_whole _) (k0_off9 c) (k0_off9_inb c) (k0_off9_wordsi8 c)
  | 0, 1 => cut bQ (Memref.isWhole_whole _) (k0_off10 c) (k0_off10_inb c) (k0_off10_wordsi8 c)
  | 1, 0 => cut bQ (Memref.isWhole_whole _) (k0_off11 c) (k0_off11_inb c) (k0_off11_wordsi8 c)
  | 1, 1 => cut bQ (Memref.isWhole_whole _) (k0_off12 c) (k0_off12_inb c) (k0_off12_wordsi8 c)

abbrev outOwn (c : Dev nD) (d p : Fin 2) : Tl .hbm S1024x2048 .bf16 := match d, p with
  | 0, 0 => cut bOut (Memref.isWhole_whole _) (k0_off9 c) (k0_off9_inb c) (k0_off9_wordsbf16 c)
  | 0, 1 => cut bOut (Memref.isWhole_whole _) (k0_off10 c) (k0_off10_inb c) (k0_off10_wordsbf16 c)
  | 1, 0 => cut bOut (Memref.isWhole_whole _) (k0_off11 c) (k0_off11_inb c) (k0_off11_wordsbf16 c)
  | 1, 1 => cut bOut (Memref.isWhole_whole _) (k0_off12 c) (k0_off12_inb c) (k0_off12_wordsbf16 c)

/-- The half row of quantised values that goes on in round `s` of the gather. -/
abbrev qHalf (c : Dev nD) (d : Fin 2) (s : Fin 3) : Tl .hbm S1024x4096 .i8 := match d with
  | 0 => ⟨bQ.slice (Rect.unit (s := S4096x8192) (k0_off13 c (BitVec.ofNat 32 s.val)) S1024x4096.size (k0_off13_inb c s)) (fun _ => rfl),
      (Memref.isWhole_whole _).wordExact_slice rfl _ (k0_off13_wordsi8 c s)⟩
  | 1 => ⟨bQ.slice (Rect.unit (s := S4096x8192) (k0_off14 c (BitVec.ofNat 32 s.val)) S1024x4096.size (k0_off14_inb c s)) (fun _ => rfl),
      (Memref.isWhole_whole _).wordExact_slice rfl _ (k0_off14_wordsi8 c s)⟩

theorem row_inb : ∀ (s : Fin 3) a, (![s.val, 0] : Fin 2 → Nat) a + S1x128.size a ≤ S4x128.size a := by decide

/-- The row the ring of maxima sends, and row `s` of what it has received. -/
abbrev amSrc : Tl .vmem S1x128 .f32 := Tl.whole cc0_scratch3
abbrev amRow (s : Fin 3) : Tl .vmem S1x128 .f32 :=
  ⟨(Memref.whole cc0_scratch4).slice (Rect.unit (s := S4x128) ![s.val, 0] S1x128.size (row_inb s)) (fun _ => rfl), View.wordExact_bits rfl⟩

/-- The neighbour a direction sends to. -/
abbrev toward (c : Dev nD) (d : Fin 2) : Dev nD := match d with | 0 => ⟨k0_dev3 c, k0_dev3_lt c⟩ | 1 => ⟨k0_dev4 c, k0_dev4_lt c⟩

/-! ## Semaphores -/

abbrev lsem (i : Fin 2) : DmaSem sig := ⟨2 + i.val, by have := i.isLt; show _ < 46; omega⟩
abbrev rsS (d : Fin 2) (s : Fin 3) (p : Fin 2) : DmaSem sig := ⟨4 + 12 * d.val + (2 * s.val + p.val), by have := d.isLt; have := s.isLt; have := p.isLt; show _ < 46; omega⟩
abbrev rsR (d : Fin 2) (s : Fin 3) (p : Fin 2) : DmaSem sig := ⟨10 + 12 * d.val + (2 * s.val + p.val), by have := d.isLt; have := s.isLt; have := p.isLt; show _ < 46; omega⟩
abbrev agS (d : Fin 2) (s : Fin 3) : DmaSem sig := ⟨28 + 6 * d.val + s.val, by have := d.isLt; have := s.isLt; show _ < 46; omega⟩
abbrev agR (d : Fin 2) (s : Fin 3) : DmaSem sig := ⟨31 + 6 * d.val + s.val, by have := d.isLt; have := s.isLt; show _ < 46; omega⟩
abbrev amS (s : Fin 3) : DmaSem sig := ⟨40 + s.val, by have := s.isLt; show _ < 46; omega⟩
abbrev amR (s : Fin 3) : DmaSem sig := ⟨43 + s.val, by have := s.isLt; show _ < 46; omega⟩
abbrev barS : Sem sig := sig.barrier 0 rfl

/-! ## Operations -/

/-- Start a copy out of a staging tile, into HBM. -/
abbrev startOut {e : EltTy} (src : Tl .vmem S1024x2048 e) (dst : Tl .hbm S1024x2048 e) (i : Fin 2) : TcProg F PUnit :=
  Prog.lift (.enqueueDma src.m (.here dst.m) (.dma (lsem i)) src.ok dst.ok ⟨Or.inl rfl, trivial⟩)

/-- Start a copy into a staging tile, from HBM. -/
abbrev startIn {e : EltTy} (src : Tl .hbm S1024x2048 e) (dst : Tl .vmem S1024x2048 e) (i : Fin 2) : TcProg F PUnit :=
  Prog.lift (.enqueueDma src.m (.here dst.m) (.dma (lsem i)) src.ok dst.ok ⟨Or.inl rfl, trivial⟩)

/-- Wait for a transfer of `dst`'s size. -/
abbrev waitOn {sp : Space} {s : Shape} {e : EltTy} (sem : DmaSem sig) (dst : Tl sp s e) : TcProg F PUnit :=
  Prog.lift (.waitDma2 sem dst.m dst.m dst.ok dst.ok)

abbrev copyOut {e : EltTy} (src : Tl .vmem S1024x2048 e) (dst : Tl .hbm S1024x2048 e) (i : Fin 2) : TcProg F PUnit := do
  startOut src dst i
  waitOn (lsem i) dst

abbrev copyIn {e : EltTy} (src : Tl .hbm S1024x2048 e) (dst : Tl .vmem S1024x2048 e) (i : Fin 2) : TcProg F PUnit := do
  startIn src dst i
  waitOn (lsem i) dst

/-- Read a whole staging tile. -/
abbrev getT {e : EltTy} (t : Tl .vmem S1024x2048 e) : TcProg F (Vec F S1024x2048 e) :=
  Prog.lift (.load t.m (Rect.unit (s := S1024x2048) ![0, 0] S1024x2048.size inb_S1024x2048_S1024x2048_0_0).toLoadRect (View.loadsAt_vmem h_S1024x2048))

/-- Overwrite a whole staging tile. -/
abbrev putA (v : Vec F S1024x2048 .bf16) : TcProg F PUnit :=
  Prog.lift (.store ta.m (Rect.unit (s := S1024x2048) ![0, 0] S1024x2048.size inb_S1024x2048_S1024x2048_0_0) v Finset.univ
    (View.stores_vmem h_S1024x2048 ((Memref.isWhole_whole _).storeExact_slice rfl _ packedbf16_S1024x2048_S1024x2048_0_0) (fun _ => rfl)) (.inl rfl))

abbrev putB (v : Vec F S1024x2048 .bf16) : TcProg F PUnit :=
  Prog.lift (.store tb.m (Rect.unit (s := S1024x2048) ![0, 0] S1024x2048.size inb_S1024x2048_S1024x2048_0_0) v Finset.univ
    (View.stores_vmem h_S1024x2048 ((Memref.isWhole_whole _).storeExact_slice rfl _ packedbf16_S1024x2048_S1024x2048_0_0) (fun _ => rfl)) (.inl rfl))

abbrev putQ (v : Vec F S1024x2048 .i8) : TcProg F PUnit :=
  Prog.lift (.store tq.m (Rect.unit (s := S1024x2048) ![0, 0] S1024x2048.size inb_S1024x2048_S1024x2048_0_0) v Finset.univ
    (View.stores_vmem h_S1024x2048 ((Memref.isWhole_whole _).storeExact_slice rfl _ packedi8_S1024x2048_S1024x2048_0_0) (fun _ => rfl)) (.inl rfl))

/-- Start a transfer to another device. -/
abbrev sendTo {s : Shape} {e : EltTy} (c' : Dev nD) (src dst : Tl .hbm s e) (sS sR : DmaSem sig) : TcProg F PUnit :=
  Prog.lift (.enqueueDma src.m (.remote (Dev.tc c') dst.m (.dma sS)) (.dma sR) src.ok dst.ok ⟨⟨rfl, Or.inl rfl⟩, trivial⟩)

abbrev sendRow (c' : Dev nD) (src dst : Tl .vmem S1x128 .f32) (sS sR : DmaSem sig) : TcProg F PUnit :=
  Prog.lift (.enqueueDma src.m (.remote (Dev.tc c') dst.m (.dma sS)) (.dma sR) src.ok dst.ok ⟨⟨rfl, Or.inl rfl⟩, trivial⟩)

/-! ## The phases -/

theorem xrow_inb : ∀ (r : Fin 4) a, (![1024 * r.val, 0] : Fin 2 → Nat) a + S1024x1024.size a ≤ S4096x1024.size a := by decide
theorem wcol_inb : ∀ (k : Fin 4) a, (![0, 2048 * k.val] : Fin 2 → Nat) a + S1024x2048.size a ≤ S1024x8192.size a := by decide

/-- Read a row of `x` and a column of `w`, and the (unused) staging tile. -/
abbrev readXW (X : Memref sig .tc .vmem S4096x1024 .bf16) (W : Memref sig .tc .vmem S1024x8192 .bf16) (r k : Fin 4) (t : Tl .vmem S1024x2048 .bf16) :
    TcProg F (FVec F S1024x2048 .bf16) := do
  let x : Vec F S1024x1024 .bf16 ← Prog.lift (.load X (Rect.unit (s := S4096x1024) ![1024 * r.val, 0] S1024x1024.size (xrow_inb r)).toLoadRect (View.loadsAt_vmem h_S1024x1024))
  let w : Vec F S1024x2048 .bf16 ← Prog.lift (.load W (Rect.unit (s := S1024x8192) ![0, 2048 * k.val] S1024x2048.size (wcol_inb k)).toLoadRect (View.loadsAt_vmem h_S1024x2048))
  let _ ← getT t
  pure (k0_pay4 x w)

/-- One row of tiles of the product, through the two staging tiles in turn. -/
def gemmRow (X : Memref sig .tc .vmem S4096x1024 .bf16) (W : Memref sig .tc .vmem S1024x8192 .bf16) (r : Fin 4) : TcProg F PUnit := do
  putA (← readXW X W r 0 ta)
  startOut ta (accT r 0) 0
  putB (← readXW X W r 1 tb)
  startOut tb (accT r 1) 1
  waitOn (lsem 0) (accT r 0)
  putA (← readXW X W r 2 ta)
  startOut ta (accT r 2) 0
  waitOn (lsem 1) (accT r 1)
  putB (← readXW X W r 3 tb)
  startOut tb (accT r 3) 1
  waitOn (lsem 0) (accT r 2)
  waitOn (lsem 1) (accT r 3)

/-- The first sends of the reduce-scatter. -/
def sendFirst (c : Dev nD) (d p : Fin 2) : TcProg F PUnit :=
  sendTo (toward c d) (accFirst c d p) (slot d 0 p) (rsS d 0 p) (rsR d 0 p)

/-- The send of slot `s` on into the next device's slot `s'`. -/
def sendOn (c : Dev nD) (d p : Fin 2) (s s' : Fin 3) : TcProg F PUnit :=
  sendTo (toward c d) (slot d s p) (slot d s' p) (rsS d s' p) (rsR d s' p)

/-- Take what has arrived at hop `s` and the own tile into the staging tiles. -/
def hopIn (c : Dev nD) (d p : Fin 2) (s : Fin 3) : TcProg F (Vec F S1024x2048 .bf16 × Vec F S1024x2048 .bf16) := do
  waitOn (rsR d s p) (slot d s p)
  copyIn (slot d s p) ta 0
  copyIn (accHop c d p s) tb 1
  let a ← getT ta
  let b ← getT tb
  let _ ← getT ta
  pure (a, b)

/-- Put the staging tile back into the slot. -/
def hopOut (d p : Fin 2) (s : Fin 3) (v : FVec F S1024x2048 .bf16) : TcProg F PUnit := do
  putA v
  copyOut ta (slot d s p) 0

/-- A hop that sends its sum on. -/
def hopMid (c : Dev nD) (d p : Fin 2) (s s' : Fin 3) : TcProg F PUnit := do
  let ab ← hopIn c d p s
  hopOut d p s (k0_pay20 ab.1 ab.2)
  sendOn c d p s s'

/-- The last hop, rectified: what it stores is `st` of the two tiles, and `g` of them is carried on. -/
def hopLast (c : Dev nD) (d p : Fin 2) (g : Vec F S1024x2048 .bf16 → Vec F S1024x2048 .bf16 → F .f32)
    (st : Vec F S1024x2048 .bf16 → Vec F S1024x2048 .bf16 → FVec F S1024x2048 .bf16) : TcProg F (F .f32) := do
  let ab ← hopIn c d p 2
  hopOut d p 2 (st ab.1 ab.2)
  pure (g ab.1 ab.2)

/-- What the send of `(d, s, p)` read, to size its wait. -/
abbrev sentFrom (c : Dev nD) (d p : Fin 2) (s : Fin 3) : Tl .hbm S1024x2048 .bf16 := match s with
  | 0 => accFirst c d p
  | 1 => slot d 0 p
  | 2 => slot d 1 p

def sentWait (c : Dev nD) (s : Fin 3) (d p : Fin 2) : TcProg F PUnit := waitOn (rsS d s p) (sentFrom c d p s)

/-- Both halves in both directions, in the order the kernel takes them. -/
def four (f : Fin 2 → Fin 2 → TcProg F PUnit) : TcProg F PUnit := do
  f 0 0
  f 1 0
  f 0 1
  f 1 1

/-- The reduce-scatter: the maximum of what this device ends up with. -/
def scatter (c : Dev nD) : TcProg F (F .f32) := do
  four (sendFirst c)
  four fun d p => hopMid c d p 0 1
  four fun d p => hopMid c d p 1 2
  let m₀ ← hopLast c 0 0 k0_pay30 fun a b => k0_pay32 (k0_pay31 a b)
  let m₁ ← hopLast c 1 0 (k0_pay34 m₀) k0_pay35
  let m₂ ← hopLast c 0 1 (fun a b => k0_pay37 m₁ (k0_pay36 a b)) fun a b => k0_pay38 (k0_pay36 a b)
  let m₃ ← hopLast c 1 1 (k0_pay40 m₂) k0_pay41
  four (sentWait c 0)
  four (sentWait c 1)
  four (sentWait c 2)
  pure m₃

/-- One step of the ring of maxima. -/
def maxStep (c : Dev nD) (src : Tl .vmem S1x128 .f32) (s : Fin 3) : TcProg F PUnit := do
  sendRow (toward c 0) src (amRow s) (amS s) (amR s)
  waitOn (amS s) src
  waitOn (amR s) (amRow s)

/-- The ring of maxima: what the received rows hold at the end. -/
def maxRing (c : Dev nD) (v : F .f32) : TcProg F (Vec F S4x128 .f32) := do
  let _ : Vec F S1x128 .f32 ← Prog.lift (.load amSrc.m (Rect.unit (s := S1x128) ![0, 0] S1x128.size inb_S1x128_S1x128_0_0).toLoadRect (View.loadsAt_vmem h_S1x128))
  Prog.lift (.store amSrc.m (Rect.unit (s := S1x128) ![0, 0] S1x128.size inb_S1x128_S1x128_0_0) (k0_pay42 v) Finset.univ (View.stores_vmem_bits_univ h_S1x128 rfl) (.inl rfl))
  maxStep c amSrc 0
  maxStep c (amRow 0) 1
  maxStep c (amRow 1) 2
  Prog.lift (.load (Memref.whole cc0_scratch4) (Rect.unit (s := S4x128) ![0, 0] S4x128.size inb_S4x128_S4x128_0_0).toLoadRect (View.loadsAt_vmem h_S4x128))

/-- Quantise one tile of the device's own rows: `gq` of what it holds, and `gb` of it into the result. -/
def quant (c : Dev nD) (gq : Vec F S1024x2048 .bf16 → Vec F S1024x2048 .i8) (gb : Vec F S1024x2048 .bf16 → Vec F S1024x2048 .bf16) (d p : Fin 2) : TcProg F PUnit := do
  copyIn (slot d 2 p) ta 0
  let a ← getT ta
  let _ ← getT tq
  putQ (gq a)
  copyOut tq (qOwn c d p) 0
  let _ ← getT tb
  putB (gb a)
  copyOut tb (outOwn c d p) 1

/-- Send a half row on, in the all-gather. -/
def gatherSend (c : Dev nD) (s : Fin 3) (d : Fin 2) : TcProg F PUnit :=
  sendTo (toward c d) (qHalf c d s) (qHalf c d s) (agS d s) (agR d s)

/-- Wait for the half row sent, then for the one received. -/
def gatherWait (c : Dev nD) (s : Fin 3) (d : Fin 2) : TcProg F PUnit := do
  waitOn (agS d s) (qHalf c d s)
  waitOn (agR d s) (qHalf c d s)

/-- Dequantise one received tile into the result, by `g`. -/
def dequant (c : Dev nD) (g : Vec F S1024x2048 .i8 → Vec F S1024x2048 .bf16) (s : Fin 3) (d p : Fin 2) : TcProg F PUnit := do
  copyIn (qGot c d p s) tq 0
  let q ← getT tq
  let _ ← getT tb
  putB (g q)
  copyOut tb (outGot c d p s) 1

def dequantRow (c : Dev nD) (g₀ g₁ : Vec F S1024x2048 .i8 → Vec F S1024x2048 .bf16) (s : Fin 3) (d : Fin 2) : TcProg F PUnit := do
  dequant c g₀ s d 0
  dequant c g₁ s d 1

/-- The all-gather. -/
def gather (c : Dev nD) (scale : F .f32) : TcProg F PUnit := do
  gatherSend c 0 0
  gatherSend c 0 1
  gatherWait c 0 0
  gatherWait c 0 1
  gatherSend c 1 0
  gatherSend c 1 1
  dequantRow c (k0_pay59 scale) (k0_pay60 scale) 0 0
  dequantRow c (k0_pay61 scale) (k0_pay62 scale) 0 1
  gatherWait c 1 0
  gatherWait c 1 1
  gatherSend c 2 0
  gatherSend c 2 1
  dequantRow c (k0_pay63 scale) (fun q => k0_pay65 (k0_pay64 scale q)) 1 0
  dequantRow c (fun q => k0_pay67 (k0_pay66 scale q)) (k0_pay68 scale) 1 1
  gatherWait c 2 0
  gatherWait c 2 1
  dequantRow c (k0_pay69 scale) (fun q => k0_pay71 (k0_pay70 scale q)) 2 0
  dequantRow c (fun q => k0_pay1 (k0_pay72 scale q)) (k0_pay2 scale) 2 1

/-- The rows of maxima set to zero, and the barrier with both neighbours. -/
def entry (c : Dev nD) : TcProg F PUnit := do
  let _ : Vec F S4x128 .f32 ← Prog.lift (.load (Memref.whole cc0_scratch4) (Rect.unit (s := S4x128) ![0, 0] S4x128.size inb_S4x128_S4x128_0_0).toLoadRect (View.loadsAt_vmem h_S4x128))
  Prog.lift (.store (Memref.whole cc0_scratch4) (Rect.unit (s := S4x128) ![0, 0] S4x128.size inb_S4x128_S4x128_0_0) (k0_pay3 (F := F)) Finset.univ (View.stores_vmem_bits_univ h_S4x128 rfl) (.inl rfl))
  semSignalWord (⟨k0_dev1 c, k0_dev1_lt c⟩ : Dev nD) barS 1#32
  semSignalWord (⟨k0_dev2 c, k0_dev2_lt c⟩ : Dev nD) barS 1#32
  semWaitWord barS 2#32

/-- Everything after the device has read its index. -/
def work (X : Memref sig .tc .vmem S4096x1024 .bf16) (W : Memref sig .tc .vmem S1024x8192 .bf16) (c : Dev nD) : TcProg F PUnit := do
  entry c
  gemmRow X W 0
  gemmRow X W 1
  gemmRow X W 2
  gemmRow X W 3
  let v ← scatter c
  let rows ← maxRing c v
  quant c (fun a => k0_pay48 (k0_pay47 v rows a)) (fun a => k0_pay49 (k0_pay44 v rows) (k0_pay46 v rows a)) 0 0
  quant c (k0_pay51 (k0_pay45 v rows)) (k0_pay52 (k0_pay44 v rows) (k0_pay45 v rows)) 0 1
  quant c (k0_pay54 (k0_pay45 v rows)) (k0_pay55 (k0_pay44 v rows) (k0_pay45 v rows)) 1 0
  quant c (k0_pay57 (k0_pay45 v rows)) (fun a => k0_pay58 (k0_pay44 v rows) (k0_pay56 (k0_pay45 v rows) a)) 1 1
  gather c (k0_pay44 v rows)

/-- The kernel. -/
def kernel (X : Memref sig .tc .vmem S4096x1024 .bf16) (W : Memref sig .tc .vmem S1024x8192 .bf16) : TcProg F PUnit := do
  let c ← Prog.lift .deviceId
  work X W c

end Cert.KernelIdeal.Work

end
-- ==== Proof.Base.lean ====
/-
  What every step of the run is stated over: the resource algebra, the wp judgement, and the
  triples of the steps a device takes on its own — starting a local copy, waiting for it, reading
  and overwriting a staging tile.
-/
module

public import proofs.«01_k».proof.Proof.Program
public import proofs.«01_k».proof.Proof.Gen.KernelIdeal.Launch
public import Idealize.ShloMosaic.Lib.Tactic
public import Idealize.ShloMosaic.Lib.Rounds
public import Idealize.ShloMosaic.Lib.Transfers
public import Idealize.ShloMosaic.Lib.Memref
public import Idealize.ShloMosaic.Lib.Pipeline.Kit

@[expose] public section

set_option maxRecDepth 16384

noncomputable section

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Cert.KernelIdeal.Gen

variable {F : FTy → Type} [FloatOps F]

/-- The rounds of the kernel's own cells: a cell's duties are told apart by a direction. -/
abbrev UK : Type := Rounds.URounds (GSem nD τ sig) (Fin 2)
/-- The user algebra: the pipeline's rounds, the kernel's, and the local transfers' counters. -/
abbrev UU : Type := UR sig nD τ × (UK × Counters)

/-- The algebra of the logic. -/
abbrev MM (F : FTy → Type) : Type := MT nD τ sig Unit (Elt F) ℕ UU ℕ

local notation "𝕄" => MT nD τ sig Unit (Elt F) ℕ UU ℕ

abbrev EP : Emb (UR sig nD τ) (MT nD τ sig Unit (Elt F) ℕ UU ℕ) := embL
abbrev ER : Emb UK (MT nD τ sig Unit (Elt F) ℕ UU ℕ) :=
  ((Emb.inl : Emb UK (UK × Counters)).trans (Emb.inr : Emb (UK × Counters) UU)).trans
    (uEmb (nD := nD) (τ := τ) (sig := sig) (Ix := Unit) (Val := Elt F) (Name := ℕ) (U := UU) (Lvl := ℕ)).toEmb

abbrev EC : UEmb Counters (MT nD τ sig Unit (Elt F) ℕ UU ℕ) := countersEmb

abbrev 𝒱₀ : Variants := Variants.none

/-- The weakest precondition of a device's program. -/
abbrev WP (c : Dev nD) {α : Type} (p : TcProg F α) (Q : α → sProp 𝕄) : sProp 𝕄 :=
  wp frame (wpE (defs₀ (F := F)) 𝒱₀ (c : Thread nD τ) none) Set.univ p Q

/-- Sequencing: the triple of the first program, and what is to be shown after it. -/
theorem seq {c : Dev nD} {α β : Type} {p : TcProg F α} {k : α → TcProg F β} {P : sProp 𝕄} {Q : α → sProp 𝕄} {Φ : β → sProp 𝕄} (h : P ⊢ WP c p Q) :
    iprop(P ∗ (∀ a, Q a -∗ WP c (k a) Φ)) ⊢ WP c (p >>= k) Φ := by
  unfold WP
  rw [wp_bind]
  exact (sep_mono_left h).trans (wp_wand_r _ _ _)

/-- Ending a program. -/
theorem done {c : Dev nD} {α : Type} (a : α) (Q : α → sProp 𝕄) : Q a ⊢ WP c (pure a : TcProg F α) Q := le_wp_ret _ _ _ a Q

/-- A program's last step. -/
theorem last {c : Dev nD} {α : Type} {p : TcProg F α} {P : sProp 𝕄} {Q Φ : α → sProp 𝕄} (h : P ⊢ WP c p Q) :
    iprop(P ∗ (∀ a, Q a -∗ Φ a)) ⊢ WP c p Φ :=
  (sep_mono_left h).trans (wp_wand_r _ _ _)

/-- Elements held outright at whatever they contain. -/
def anyAt (c : Dev nD) {sp : Space} {s : Shape} {e : EltTy} (m : Memref sig .tc sp s e) : sProp 𝕄 :=
  iprop(∃ f, m.view.loc (c : Thread nD τ) ↦[m.view.set]{fullShare} f)

/-- A tile owned at share `q` holding `v`. -/
abbrev has (c : Dev nD) {sp : Space} {s : Shape} {e : EltTy} (t : Tl sp s e) (q : PosShare TreeShare) (v : s.Idx → Elt F e) : sProp 𝕄 :=
  owns (c : Thread nD τ) t.m q v

/-- A tile owned outright at whatever it contains. -/
abbrev lent (c : Dev nD) {sp : Space} {s : Shape} {e : EltTy} (t : Tl sp s e) : sProp 𝕄 := anyAt (F := F) c t.m

instance anyAt_storable (c : Dev nD) {sp : Space} {s : Shape} {e : EltTy} (m : Memref sig .tc sp s e) :
    BI.Storable (upEmb : UEmb _ 𝕄) (anyAt (F := F) c m) := by unfold anyAt; infer_instance

omit [FloatOps F] in
theorem has_lent (c : Dev nD) {sp : Space} {s : Shape} {e : EltTy} (t : Tl sp s e) (v : s.Idx → Elt F e) : has c t fullShare v ⊢ lent c t := by
  unfold has lent anyAt owns
  iintro ⟨%f, -, H⟩
  iexists f; iexact H

/-- The counter of one of a device's DMA semaphores is at zero. -/
abbrev zero (c : Dev nD) (q : DmaSem sig) : sProp 𝕄 := semVal ((c : Thread nD τ), SemLoc.dma q) 0

/-! ## Local copies -/

/-- A local copy under way. -/
def flying (c : Dev nD) {sp sp' : Space} {s : Shape} {e : EltTy} (src : Tl sp s e) (dst : Tl sp' s e) (i : Fin 2) (q : PosShare TreeShare) (v : s.Idx → Elt F e) : sProp 𝕄 :=
  Flight EC (c : Thread nD τ) (.dma (lsem i)) () dst.m.view.dmaCredit iprop(has c dst fullShare v ∗ has c src q v)

omit [FloatOps F] in
theorem landed {c : Dev nD} {sp sp' : Space} {s : Shape} {e : EltTy} (src : Tl sp s e) (dst : Tl sp' s e) (q : PosShare TreeShare) (fs : Buf (Elt F) (src.m.view.loc (c : Thread nD τ))) (fd : Buf (Elt F) (dst.m.view.loc (c : Thread nD τ))) :
    iprop((dst.m.view.loc (c : Thread nD τ) ↦[dst.m.view.set]{fullShare} (dst.m.view.write (Elt F) fd (src.m.view.read (Elt F) fs) Finset.univ)) ∗ (src.m.view.loc (c : Thread nD τ) ↦[src.m.view.set]{q} fs))
      ⊢ (iprop(has c dst fullShare (src.m.view.read (Elt F) fs) ∗ has c src q (src.m.view.read (Elt F) fs)) : sProp 𝕄) := by
  iintro ⟨Hd, Hs⟩
  unfold has owns
  isplitl [Hd]
  · iexists _; isplitr
    swap; · iexact Hd
    ipureintro; exact View.read_write_univ _ _
  · iexists _; isplitr
    swap; · iexact Hs
    ipureintro; rfl

theorem start_out {c : Dev nD} {e : EltTy} (src : Tl .vmem S1024x2048 e) (dst : Tl .hbm S1024x2048 e) (i : Fin 2) (q : PosShare TreeShare) (v : S1024x2048.Idx → Elt F e) :
    iprop(has c src q v ∗ lent c dst ∗ zero c (lsem i)) ⊢ WP c (startOut (F := F) src dst i) fun _ => flying c src dst i q v := by
  unfold has lent anyAt zero flying
  rw [show owns (c : Thread nD τ) src.m q v = iprop(∃ f, ⌜src.m.view.read (Elt F) f = v⌝ ∗ (src.m.view.loc (c : Thread nD τ) ↦[src.m.view.set]{q} f)) from rfl]
  iintro ⟨⟨%fs, %hv, Hs⟩, ⟨%fd, Hd⟩, Hz⟩
  subst hv
  iapply (Transfers.wp_dmaLocal EC 𝒱₀ (c : Thread nD τ) none (dst := dst.m) (Sd := dst.m.view.set) () dst.m.view.dmaCredit rfl (View.dmaCredit_pos _ (by decide)) (Finset.Subset.refl _)) $$ [Hs Hd Hz]
  · isplitl [Hs]; · iexact Hs
    isplitl [Hd]; · iexact Hd
    iexact Hz
  iintro HF
  iapply (le_wp_ret _ _ _ _ _)
  iapply (Transfers.Flight_mono EC (c : Thread nD τ) (landed src dst q fs fd))
  iexact HF

theorem start_in {c : Dev nD} {e : EltTy} (src : Tl .hbm S1024x2048 e) (dst : Tl .vmem S1024x2048 e) (i : Fin 2) (q : PosShare TreeShare) (v : S1024x2048.Idx → Elt F e) :
    iprop(has c src q v ∗ lent c dst ∗ zero c (lsem i)) ⊢ WP c (startIn (F := F) src dst i) fun _ => flying c src dst i q v := by
  unfold has lent anyAt zero flying
  rw [show owns (c : Thread nD τ) src.m q v = iprop(∃ f, ⌜src.m.view.read (Elt F) f = v⌝ ∗ (src.m.view.loc (c : Thread nD τ) ↦[src.m.view.set]{q} f)) from rfl]
  iintro ⟨⟨%fs, %hv, Hs⟩, ⟨%fd, Hd⟩, Hz⟩
  subst hv
  iapply (Transfers.wp_dmaLocal EC 𝒱₀ (c : Thread nD τ) none (dst := dst.m) (Sd := dst.m.view.set) () dst.m.view.dmaCredit rfl (View.dmaCredit_pos _ (by decide)) (Finset.Subset.refl _)) $$ [Hs Hd Hz]
  · isplitl [Hs]; · iexact Hs
    isplitl [Hd]; · iexact Hd
    iexact Hz
  iintro HF
  iapply (le_wp_ret _ _ _ _ _)
  iapply (Transfers.Flight_mono EC (c : Thread nD τ) (landed src dst q fs fd))
  iexact HF

/-- Waiting for a local copy, owing `O`. -/
theorem wait_local {c : Dev nD} {sp sp' : Space} {s : Shape} {e : EltTy} (src : Tl sp s e) (dst : Tl sp' s e) (i : Fin 2) (q : PosShare TreeShare) (v : s.Idx → Elt F e)
    {O : CellTallies nD τ sig Unit} {W : Waits sig Unit} :
    iprop(flying c src dst i q v ∗ owes (c : Thread nD τ) O W ∗ MayWait (c : Thread nD τ) (.dma (lsem i)) () O)
      ⊢ WP c (waitOn (F := F) (lsem i) dst) fun _ => iprop(has c dst fullShare v ∗ has c src q v ∗ zero c (lsem i) ∗ owes (c : Thread nD τ) O (insert (SemLoc.dma (lsem i), ()) W)) := by
  unfold flying
  iintro ⟨HF, HO, HM⟩
  iapply (Transfers.wp_waitLocalO EC 𝒱₀ (c : Thread nD τ) none () (dstw := dst.m) rfl) $$ [HF HO HM]
  · isplitl [HF]; · iexact HF
    isplitl [HO] <;> iassumption
  iintro ⟨⟨Hd, Hs⟩, Hz, HO⟩
  iapply (le_wp_ret _ _ _ _ _)
  isplitl [Hd]; · iexact Hd
  isplitl [Hs]; · iexact Hs
  isplitl [Hz] <;> iassumption

/-! ## Staging tiles -/

abbrev rT : Rect S1024x2048 := Rect.unit (s := S1024x2048) ![0, 0] S1024x2048.size inb_S1024x2048_S1024x2048_0_0

theorem hz : (![0, 0] : Fin 2 → Nat) = fun _ => 0 := funext fun a => by fin_cases a <;> rfl

theorem get_ta {c : Dev nD} (q : PosShare TreeShare) (v : S1024x2048.Idx → Elt F .bf16) :
    has c ta q v ⊢ WP c (getT (F := F) ta) fun a => iprop(⌜a = v⌝ ∗ has c ta q v) := by
  rw [has, owns_whole]
  iintro H
  iapply (wp_load 𝒱₀ (c : Thread nD τ) none Set.univ (m := ta.m) (Finset.subset_univ _)) $$ H
  iintro H
  iapply (le_wp_ret _ _ _ _ _)
  isplitr
  · ipureintro; exact Memref.readAt_unit_zero (Elt F) cc0_scratch0 hz _ v
  iexact H

theorem get_tb {c : Dev nD} (q : PosShare TreeShare) (v : S1024x2048.Idx → Elt F .bf16) :
    has c tb q v ⊢ WP c (getT (F := F) tb) fun a => iprop(⌜a = v⌝ ∗ has c tb q v) := by
  rw [has, owns_whole]
  iintro H
  iapply (wp_load 𝒱₀ (c : Thread nD τ) none Set.univ (m := tb.m) (Finset.subset_univ _)) $$ H
  iintro H
  iapply (le_wp_ret _ _ _ _ _)
  isplitr
  · ipureintro; exact Memref.readAt_unit_zero (Elt F) cc0_scratch1 hz _ v
  iexact H

theorem get_tq {c : Dev nD} (q : PosShare TreeShare) (v : S1024x2048.Idx → Elt F .i8) :
    has c tq q v ⊢ WP c (getT (F := F) tq) fun a => iprop(⌜a = v⌝ ∗ has c tq q v) := by
  rw [has, owns_whole]
  iintro H
  iapply (wp_load 𝒱₀ (c : Thread nD τ) none Set.univ (m := tq.m) (Finset.subset_univ _)) $$ H
  iintro H
  iapply (le_wp_ret _ _ _ _ _)
  isplitr
  · ipureintro; exact Memref.readAt_unit_zero (Elt F) cc0_scratch2 hz _ v
  iexact H

omit [FloatOps F] in
theorem lent_whole (c : Dev nD) (b : Ref sig .tc) : lent (F := F) c (Tl.whole b) = (iprop(∃ f, ((c : Thread nD τ).loc b) ↦{fullShare} f) : sProp 𝕄) := by
  unfold lent anyAt; simp only [Memref.view_whole, View.set_whole]

omit [FloatOps F] in
/-- A tile that may hold anything holds something. -/
theorem lent_has (c : Dev nD) {sp : Space} {s : Shape} {e : EltTy} (t : Tl sp s e) : lent c t ⊢ (iprop(∃ v, has c t fullShare v) : sProp 𝕄) := by
  unfold lent anyAt
  iintro ⟨%f, H⟩
  iexists _
  iapply (owns_intro (c : Thread nD τ) t.m fullShare f)
  iexact H

theorem put_ta {c : Dev nD} (v : S1024x2048.Idx → Elt F .bf16) : lent c ta ⊢ WP c (putA v) fun _ => has c ta fullShare v := by
  rw [lent_whole, has, owns_whole]
  iintro ⟨%f, H⟩
  iapply (wp_store 𝒱₀ (c : Thread nD τ) none Set.univ (m := ta.m) (r := rT) (Mk := Finset.univ) (Finset.subset_univ _)) $$ H
  iintro H
  iapply (le_wp_ret _ _ _ _ _)
  rw [show View.write (Elt F) (ta.m.access rT) f v Finset.univ = v from Memref.write_access_unit_zero_univ (Elt F) cc0_scratch0 hz _ f v]
  iexact H

theorem put_tb {c : Dev nD} (v : S1024x2048.Idx → Elt F .bf16) : lent c tb ⊢ WP c (putB v) fun _ => has c tb fullShare v := by
  rw [lent_whole, has, owns_whole]
  iintro ⟨%f, H⟩
  iapply (wp_store 𝒱₀ (c : Thread nD τ) none Set.univ (m := tb.m) (r := rT) (Mk := Finset.univ) (Finset.subset_univ _)) $$ H
  iintro H
  iapply (le_wp_ret _ _ _ _ _)
  rw [show View.write (Elt F) (tb.m.access rT) f v Finset.univ = v from Memref.write_access_unit_zero_univ (Elt F) cc0_scratch1 hz _ f v]
  iexact H

theorem put_tq {c : Dev nD} (v : S1024x2048.Idx → Elt F .i8) : lent c tq ⊢ WP c (putQ v) fun _ => has c tq fullShare v := by
  rw [lent_whole, has, owns_whole]
  iintro ⟨%f, H⟩
  iapply (wp_store 𝒱₀ (c : Thread nD τ) none Set.univ (m := tq.m) (r := rT) (Mk := Finset.univ) (Finset.subset_univ _)) $$ H
  iintro H
  iapply (le_wp_ret _ _ _ _ _)
  rw [show View.write (Elt F) (tq.m.access rT) f v Finset.univ = v from Memref.write_access_unit_zero_univ (Elt F) cc0_scratch2 hz _ f v]
  iexact H

end Cert.KernelIdeal.Work

end
-- ==== Proof.Geom.lean ====
/-
  Which tiles the printed offsets name: every one is a tile of a 4 × 4 grid of a 4096 × 8192 array,
  its row counted round the ring from the device's own position. And the splitting of whole arrays
  into those tiles and back.
-/
module

public import proofs.«01_k».proof.Proof.Base

@[expose] public section

set_option maxRecDepth 16384

noncomputable section

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ UU ℕ

/-! ## The ring -/

/-- The position `a` steps back from `c` along direction `d`: where what arrives at `c` in `a` steps was. -/
def adv (c : Fin 4) (d : Fin 2) (a : ℕ) : Fin 4 := match d with
  | 0 => ⟨(c.val + 3 * a) % 4, Nat.mod_lt _ (by decide)⟩
  | 1 => ⟨(c.val + a) % 4, Nat.mod_lt _ (by decide)⟩

/-- The column of tiles of direction `d`, half `p`. -/
def col (d p : Fin 2) : Fin 4 := ⟨2 * d.val + p.val, by have := d.isLt; have := p.isLt; omega⟩

theorem adv_zero : ∀ (c : Fin 4) (d : Fin 2), adv c d 0 = c := by decide

theorem adv_four : ∀ (c : Fin 4) (d : Fin 2), adv c d 4 = c := by decide

theorem adv_adv (c : Fin 4) (d : Fin 2) (a b : ℕ) : adv (adv c d a) d b = adv c d (a + b) := by
  match d with
  | 0 => unfold adv; ext; simp only; omega
  | 1 => unfold adv; ext; simp only; omega

/-- The two directions are opposite. -/
theorem adv_back : ∀ (c : Fin 4) (d : Fin 2), adv (adv c d 1) (1 - d) 1 = c := by decide

theorem toward_eq : ∀ (c : Fin 4) (d : Fin 2), toward c d = adv c (1 - d) 1 := by decide +kernel

theorem dev1_eq : ∀ c : Fin 4, (⟨k0_dev1 c, k0_dev1_lt c⟩ : Dev nD) = toward c 1 := by decide +kernel
theorem dev2_eq : ∀ c : Fin 4, (⟨k0_dev2 c, k0_dev2_lt c⟩ : Dev nD) = toward c 0 := by decide +kernel

/-- What arrives from a direction was sent by the device whose target this is. -/
theorem from_toward : ∀ (c : Fin 4) (d : Fin 2), adv (toward c d) d 1 = c := by decide +kernel
theorem toward_from : ∀ (c : Fin 4) (d : Fin 2), toward (adv c d 1) d = c := by decide +kernel

/-! ## The tiles -/

theorem tile_words8 : ∀ r k : Fin 4, (Rect.unit (s := S4096x8192) ![1024 * r.val, 2048 * k.val] S1024x2048.size (tile_inb r k)).WholeWords (EltTy.packing .i8) := by
  decide +kernel

theorem half_inb : ∀ (r : Fin 4) (d : Fin 2) a, (![1024 * r.val, 4096 * d.val] : Fin 2 → Nat) a + S1024x4096.size a ≤ S4096x8192.size a := by decide
theorem half_words : ∀ (r : Fin 4) (d : Fin 2), (Rect.unit (s := S4096x8192) ![1024 * r.val, 4096 * d.val] S1024x4096.size (half_inb r d)).WholeWords (EltTy.packing .i8) := by
  decide +kernel

/-- Tile `(r, k)` of the result, and of the quantised array. -/
abbrev outT (r k : Fin 4) : Tl .hbm S1024x2048 .bf16 := cut bOut (Memref.isWhole_whole _) ![1024 * r.val, 2048 * k.val] (tile_inb r k) (tile_words r k)
abbrev qT (r k : Fin 4) : Tl .hbm S1024x2048 .i8 := cut bQ (Memref.isWhole_whole _) ![1024 * r.val, 2048 * k.val] (tile_inb r k) (tile_words8 r k)

abbrev cutH (off : Fin 2 → Nat) (h : ∀ a, off a + S1024x4096.size a ≤ S4096x8192.size a)
    (hw : (Rect.unit (s := S4096x8192) off S1024x4096.size h).WholeWords (EltTy.packing .i8)) : Tl .hbm S1024x4096 .i8 :=
  ⟨bQ.slice (Rect.unit (s := S4096x8192) off S1024x4096.size h) (fun _ => rfl), (Memref.isWhole_whole _).wordExact_slice rfl _ hw⟩

/-- Half `d` of row `r` of the quantised array. -/
abbrev qH (r : Fin 4) (d : Fin 2) : Tl .hbm S1024x4096 .i8 := cutH ![1024 * r.val, 4096 * d.val] (half_inb r d) (half_words r d)

theorem cut_congr {e : EltTy} (b : Memref sig .tc .hbm S4096x8192 e) (hb : b.IsWhole) {off off' : Fin 2 → Nat} (eo : off = off')
    (h : ∀ a, off a + S1024x2048.size a ≤ S4096x8192.size a) (h' : ∀ a, off' a + S1024x2048.size a ≤ S4096x8192.size a)
    (hw : (Rect.unit (s := S4096x8192) off S1024x2048.size h).WholeWords (EltTy.packing e))
    (hw' : (Rect.unit (s := S4096x8192) off' S1024x2048.size h').WholeWords (EltTy.packing e)) :
    cut b hb off h hw = cut b hb off' h' hw' := by subst eo; rfl

theorem cutH_congr {off off' : Fin 2 → Nat} (eo : off = off')
    (h : ∀ a, off a + S1024x4096.size a ≤ S4096x8192.size a) (h' : ∀ a, off' a + S1024x4096.size a ≤ S4096x8192.size a)
    (hw : (Rect.unit (s := S4096x8192) off S1024x4096.size h).WholeWords (EltTy.packing .i8))
    (hw' : (Rect.unit (s := S4096x8192) off' S1024x4096.size h').WholeWords (EltTy.packing .i8)) :
    cutH off h hw = cutH off' h' hw' := by subst eo; rfl

abbrev at2 (r k : Fin 4) : Fin 2 → Nat := ![1024 * r.val, 2048 * k.val]

theorem off1_at : ∀ c : Fin 4, k0_off1 c = at2 (adv c 0 1) (col 0 0) := by decide +kernel
theorem off2_at : ∀ c : Fin 4, k0_off2 c = at2 (adv c 1 1) (col 1 0) := by decide +kernel
theorem off3_at : ∀ c : Fin 4, k0_off3 c = at2 (adv c 0 1) (col 0 1) := by decide +kernel
theorem off4_at : ∀ c : Fin 4, k0_off4 c = at2 (adv c 1 1) (col 1 1) := by decide +kernel
theorem off5_at : ∀ (c : Fin 4) (b : Fin 2) (s : Fin 3), k0_off5 c (BitVec.ofNat 32 (1 + b.val)) (BitVec.ofNat 32 s.val) = at2 (adv c 0 (1 + b.val + s.val)) (col 0 0) := by decide +kernel
theorem off6_at : ∀ (c : Fin 4) (b : Fin 2) (s : Fin 3), k0_off6 c (BitVec.ofNat 32 (1 + b.val)) (BitVec.ofNat 32 s.val) = at2 (adv c 1 (1 + b.val + s.val)) (col 1 0) := by decide +kernel
theorem off7_at : ∀ (c : Fin 4) (b : Fin 2) (s : Fin 3), k0_off7 c (BitVec.ofNat 32 (1 + b.val)) (BitVec.ofNat 32 s.val) = at2 (adv c 0 (1 + b.val + s.val)) (col 0 1) := by decide +kernel
theorem off8_at : ∀ (c : Fin 4) (b : Fin 2) (s : Fin 3), k0_off8 c (BitVec.ofNat 32 (1 + b.val)) (BitVec.ofNat 32 s.val) = at2 (adv c 1 (1 + b.val + s.val)) (col 1 1) := by decide +kernel
theorem off9_at : ∀ c : Fin 4, k0_off9 c = at2 c (col 0 0) := by decide +kernel
theorem off10_at : ∀ c : Fin 4, k0_off10 c = at2 c (col 0 1) := by decide +kernel
theorem off11_at : ∀ c : Fin 4, k0_off11 c = at2 c (col 1 0) := by decide +kernel
theorem off12_at : ∀ c : Fin 4, k0_off12 c = at2 c (col 1 1) := by decide +kernel
theorem off13_at : ∀ (c : Fin 4) (s : Fin 3), k0_off13 c (BitVec.ofNat 32 s.val) = ![1024 * (adv c 0 s.val).val, 4096 * (0 : Fin 2).val] := by decide +kernel
theorem off14_at : ∀ (c : Fin 4) (s : Fin 3), k0_off14 c (BitVec.ofNat 32 s.val) = ![1024 * (adv c 1 s.val).val, 4096 * (1 : Fin 2).val] := by decide +kernel

theorem accFirst_eq (c : Fin 4) (d p : Fin 2) : accFirst c d p = accT (adv c d 1) (col d p) := by
  match d, p with
  | 0, 0 => exact cut_congr _ _ (off1_at c) (k0_off1_inb c) (tile_inb _ _) (k0_off1_wordsbf16 c) (tile_words _ _)
  | 1, 0 => exact cut_congr _ _ (off2_at c) (k0_off2_inb c) (tile_inb _ _) (k0_off2_wordsbf16 c) (tile_words _ _)
  | 0, 1 => exact cut_congr _ _ (off3_at c) (k0_off3_inb c) (tile_inb _ _) (k0_off3_wordsbf16 c) (tile_words _ _)
  | 1, 1 => exact cut_congr _ _ (off4_at c) (k0_off4_inb c) (tile_inb _ _) (k0_off4_wordsbf16 c) (tile_words _ _)

theorem accHop_eq (c : Fin 4) (d p : Fin 2) (s : Fin 3) : accHop c d p s = accT (adv c d (2 + s.val)) (col d p) := by
  match d, p with
  | 0, 0 => exact cut_congr _ _ (off5_at c 1 s) (k0_off5_inb c 1 s) (tile_inb _ _) (k0_off5_wordsbf16 c 1 s) (tile_words _ _)
  | 1, 0 => exact cut_congr _ _ (off6_at c 1 s) (k0_off6_inb c 1 s) (tile_inb _ _) (k0_off6_wordsbf16 c 1 s) (tile_words _ _)
  | 0, 1 => exact cut_congr _ _ (off7_at c 1 s) (k0_off7_inb c 1 s) (tile_inb _ _) (k0_off7_wordsbf16 c 1 s) (tile_words _ _)
  | 1, 1 => exact cut_congr _ _ (off8_at c 1 s) (k0_off8_inb c 1 s) (tile_inb _ _) (k0_off8_wordsbf16 c 1 s) (tile_words _ _)

theorem qGot_eq (c : Fin 4) (d p : Fin 2) (s : Fin 3) : qGot c d p s = qT (adv c d (1 + s.val)) (col d p) := by
  match d, p with
  | 0, 0 => exact cut_congr _ _ (off5_at c 0 s) (k0_off5_inb c 0 s) (tile_inb _ _) (k0_off5_wordsi8 c 0 s) (tile_words8 _ _)
  | 1, 0 => exact cut_congr _ _ (off6_at c 0 s) (k0_off6_inb c 0 s) (tile_inb _ _) (k0_off6_wordsi8 c 0 s) (tile_words8 _ _)
  | 0, 1 => exact cut_congr _ _ (off7_at c 0 s) (k0_off7_inb c 0 s) (tile_inb _ _) (k0_off7_wordsi8 c 0 s) (tile_words8 _ _)
  | 1, 1 => exact cut_congr _ _ (off8_at c 0 s) (k0_off8_inb c 0 s) (tile_inb _ _) (k0_off8_wordsi8 c 0 s) (tile_words8 _ _)

theorem outGot_eq (c : Fin 4) (d p : Fin 2) (s : Fin 3) : outGot c d p s = outT (adv c d (1 + s.val)) (col d p) := by
  match d, p with
  | 0, 0 => exact cut_congr _ _ (off5_at c 0 s) (k0_off5_inb c 0 s) (tile_inb _ _) (k0_off5_wordsbf16 c 0 s) (tile_words _ _)
  | 1, 0 => exact cut_congr _ _ (off6_at c 0 s) (k0_off6_inb c 0 s) (tile_inb _ _) (k0_off6_wordsbf16 c 0 s) (tile_words _ _)
  | 0, 1 => exact cut_congr _ _ (off7_at c 0 s) (k0_off7_inb c 0 s) (tile_inb _ _) (k0_off7_wordsbf16 c 0 s) (tile_words _ _)
  | 1, 1 => exact cut_congr _ _ (off8_at c 0 s) (k0_off8_inb c 0 s) (tile_inb _ _) (k0_off8_wordsbf16 c 0 s) (tile_words _ _)

theorem qOwn_eq (c : Fin 4) (d p : Fin 2) : qOwn c d p = qT c (col d p) := by
  match d, p with
  | 0, 0 => exact cut_congr _ _ (off9_at c) (k0_off9_inb c) (tile_inb _ _) (k0_off9_wordsi8 c) (tile_words8 _ _)
  | 0, 1 => exact cut_congr _ _ (off10_at c) (k0_off10_inb c) (tile_inb _ _) (k0_off10_wordsi8 c) (tile_words8 _ _)
  | 1, 0 => exact cut_congr _ _ (off11_at c) (k0_off11_inb c) (tile_inb _ _) (k0_off11_wordsi8 c) (tile_words8 _ _)
  | 1, 1 => exact cut_congr _ _ (off12_at c) (k0_off12_inb c) (tile_inb _ _) (k0_off12_wordsi8 c) (tile_words8 _ _)

theorem outOwn_eq (c : Fin 4) (d p : Fin 2) : outOwn c d p = outT c (col d p) := by
  match d, p with
  | 0, 0 => exact cut_congr _ _ (off9_at c) (k0_off9_inb c) (tile_inb _ _) (k0_off9_wordsbf16 c) (tile_words _ _)
  | 0, 1 => exact cut_congr _ _ (off10_at c) (k0_off10_inb c) (tile_inb _ _) (k0_off10_wordsbf16 c) (tile_words _ _)
  | 1, 0 => exact cut_congr _ _ (off11_at c) (k0_off11_inb c) (tile_inb _ _) (k0_off11_wordsbf16 c) (tile_words _ _)
  | 1, 1 => exact cut_congr _ _ (off12_at c) (k0_off12_inb c) (tile_inb _ _) (k0_off12_wordsbf16 c) (tile_words _ _)

theorem qHalf_eq (c : Fin 4) (d : Fin 2) (s : Fin 3) : qHalf c d s = qH (adv c d s.val) d := by
  match d with
  | 0 => exact cutH_congr (off13_at c s) (k0_off13_inb c s) (half_inb _ _) (k0_off13_wordsi8 c s) (half_words _ _)
  | 1 => exact cutH_congr (off14_at c s) (k0_off14_inb c s) (half_inb _ _) (k0_off14_wordsi8 c s) (half_words _ _)

/-! ## Splitting and joining -/

/-- The sixteen tiles' rectangles. -/
abbrev tileR (t : Fin 4 × Fin 4) : Rect S4096x8192 := Rect.unit (s := S4096x8192) ![1024 * t.1.val, 2048 * t.2.val] S1024x2048.size (tile_inb t.1 t.2)

theorem tileR_disj (t t' : Fin 4 × Fin 4) (h : t ≠ t') : Disjoint (tileR t).set (tileR t').set := by
  by_cases h1 : t.1 = t'.1
  · have h2 : t.2.val ≠ t'.2.val := fun e => h (Prod.ext h1 (Fin.ext e))
    refine Rect.unit_disjoint 1 ?_
    show 2048 * t.2.val + 2048 ≤ 2048 * t'.2.val ∨ 2048 * t'.2.val + 2048 ≤ 2048 * t.2.val
    omega
  · have h2 : t.1.val ≠ t'.1.val := fun e => h1 (Fin.ext e)
    refine Rect.unit_disjoint 0 ?_
    show 1024 * t.1.val + 1024 ≤ 1024 * t'.1.val ∨ 1024 * t'.1.val + 1024 ≤ 1024 * t.1.val
    omega

/-- The tile an element lies in. -/
def tileOf (x : S4096x8192.Idx) : Fin 4 × Fin 4 :=
  (⟨(x 0).val / 1024, by have : (x 0).val < 4096 := (x 0).isLt; omega⟩, ⟨(x 1).val / 2048, by have : (x 1).val < 8192 := (x 1).isLt; omega⟩)

theorem mem_tileOf (x : S4096x8192.Idx) : x ∈ (tileR (tileOf x)).set := by
  rw [Rect.mem_set_unit]
  intro a
  fin_cases a
  · show 1024 * ((x 0).val / 1024) ≤ (x 0).val ∧ (x 0).val < 1024 * ((x 0).val / 1024) + 1024
    omega
  · show 2048 * ((x 1).val / 2048) ≤ (x 1).val ∧ (x 1).val < 2048 * ((x 1).val / 2048) + 2048
    omega

theorem tileR_cover : (Finset.univ : Finset (Fin 4 × Fin 4)).biUnion (fun t => (tileR t).set) = Finset.univ :=
  Finset.eq_univ_iff_forall.mpr fun x => Finset.mem_biUnion.mpr ⟨tileOf x, Finset.mem_univ _, mem_tileOf x⟩

/-- The halves' rectangles. -/
abbrev halfR (t : Fin 4 × Fin 2) : Rect S4096x8192 := Rect.unit (s := S4096x8192) ![1024 * t.1.val, 4096 * t.2.val] S1024x4096.size (half_inb t.1 t.2)

theorem halfR_disj (t t' : Fin 4 × Fin 2) (h : t ≠ t') : Disjoint (halfR t).set (halfR t').set := by
  by_cases h1 : t.1 = t'.1
  · have h2 : t.2.val ≠ t'.2.val := fun e => h (Prod.ext h1 (Fin.ext e))
    refine Rect.unit_disjoint 1 ?_
    show 4096 * t.2.val + 4096 ≤ 4096 * t'.2.val ∨ 4096 * t'.2.val + 4096 ≤ 4096 * t.2.val
    omega
  · have h2 : t.1.val ≠ t'.1.val := fun e => h1 (Fin.ext e)
    refine Rect.unit_disjoint 0 ?_
    show 1024 * t.1.val + 1024 ≤ 1024 * t'.1.val ∨ 1024 * t'.1.val + 1024 ≤ 1024 * t.1.val
    omega

theorem halfR_cover : (Finset.univ : Finset (Fin 4 × Fin 2)).biUnion (fun t => (halfR t).set) = Finset.univ :=
  Finset.eq_univ_iff_forall.mpr fun x => Finset.mem_biUnion.mpr
    ⟨(⟨(x 0).val / 1024, by have : (x 0).val < 4096 := (x 0).isLt; omega⟩, ⟨(x 1).val / 4096, by have : (x 1).val < 8192 := (x 1).isLt; omega⟩), Finset.mem_univ _, by
      rw [Rect.mem_set_unit]
      intro a
      fin_cases a
      · show 1024 * ((x 0).val / 1024) ≤ (x 0).val ∧ (x 0).val < 1024 * ((x 0).val / 1024) + 1024
        omega
      · show 4096 * ((x 1).val / 4096) ≤ (x 1).val ∧ (x 1).val < 4096 * ((x 1).val / 4096) + 4096
        omega⟩

/-- The slots' rectangles. -/
abbrev slotR (t : Fin 3 × Fin 2) : Rect S3x1024x4096 := Rect.unit (s := S3x1024x4096) ![t.1.val, 0, 2048 * t.2.val] S1x1024x2048.size (slot_inb t.1 t.2)

theorem slotR_disj (t t' : Fin 3 × Fin 2) (h : t ≠ t') : Disjoint (slotR t).set (slotR t').set := by
  by_cases h1 : t.1 = t'.1
  · have h2 : t.2.val ≠ t'.2.val := fun e => h (Prod.ext h1 (Fin.ext e))
    refine Rect.unit_disjoint 2 ?_
    show 2048 * t.2.val + 2048 ≤ 2048 * t'.2.val ∨ 2048 * t'.2.val + 2048 ≤ 2048 * t.2.val
    omega
  · have h2 : t.1.val ≠ t'.1.val := fun e => h1 (Fin.ext e)
    refine Rect.unit_disjoint 0 ?_
    show t.1.val + 1 ≤ t'.1.val ∨ t'.1.val + 1 ≤ t.1.val
    omega

theorem slotR_cover : (Finset.univ : Finset (Fin 3 × Fin 2)).biUnion (fun t => (slotR t).set) = Finset.univ :=
  Finset.eq_univ_iff_forall.mpr fun x => Finset.mem_biUnion.mpr
    ⟨(⟨(x 0).val, (x 0).isLt⟩, ⟨(x 2).val / 2048, by have : (x 2).val < 4096 := (x 2).isLt; omega⟩), Finset.mem_univ _, by
      rw [Rect.mem_set_unit]
      intro a
      fin_cases a
      · show (x 0).val ≤ (x 0).val ∧ (x 0).val < (x 0).val + 1
        omega
      · show 0 ≤ (x 1).val ∧ (x 1).val < 0 + 1024
        have : (x 1).val < 1024 := (x 1).isLt
        omega
      · show 2048 * ((x 2).val / 2048) ≤ (x 2).val ∧ (x 2).val < 2048 * ((x 2).val / 2048) + 2048
        omega⟩

theorem row4_inb : ∀ (s : Fin 4) a, (![s.val, 0] : Fin 2 → Nat) a + S1x128.size a ≤ S4x128.size a := by decide

/-- The rows of the received maxima. -/
abbrev rowR (t : Fin 4) : Rect S4x128 := Rect.unit (s := S4x128) ![t.val, 0] S1x128.size (row4_inb t)

theorem rowR_disj (t t' : Fin 4) (h : t ≠ t') : Disjoint (rowR t).set (rowR t').set := by
  have h2 : t.val ≠ t'.val := fun e => h (Fin.ext e)
  refine Rect.unit_disjoint 0 ?_
  show t.val + 1 ≤ t'.val ∨ t'.val + 1 ≤ t.val
  omega

theorem rowR_cover : (Finset.univ : Finset (Fin 4)).biUnion (fun t => (rowR t).set) = Finset.univ :=
  Finset.eq_univ_iff_forall.mpr fun x => Finset.mem_biUnion.mpr
    ⟨⟨(x 0).val, (x 0).isLt⟩, Finset.mem_univ _, by
      rw [Rect.mem_set_unit]
      intro a
      fin_cases a
      · show (x 0).val ≤ (x 0).val ∧ (x 0).val < (x 0).val + 1
        omega
      · show 0 ≤ (x 1).val ∧ (x 1).val < 0 + 128
        have : (x 1).val < 128 := (x 1).isLt
        omega⟩

/-- An index of a tile. -/
def tix (i : Fin 1024) (j : Fin 2048) : S1024x2048.Idx := fun a => match a with | 0 => i | 1 => j

/-- A half row from its two tiles. -/
def glue {α : Type} (v : Fin 2 → S1024x2048.Idx → α) : S1024x4096.Idx → α := fun i =>
  v ⟨(i 1).val / 2048, by have : (i 1).val < 4096 := (i 1).isLt; omega⟩ (tix (i 0) ⟨(i 1).val % 2048, Nat.mod_lt _ (by decide)⟩)

theorem sub_inb : ∀ (p : Fin 2) a, (![0, 2048 * p.val] : Fin 2 → Nat) a + S1024x2048.size a ≤ S1024x4096.size a := by decide
abbrev subR (p : Fin 2) : Rect S1024x4096 := Rect.unit (s := S1024x4096) ![0, 2048 * p.val] S1024x2048.size (sub_inb p)

theorem subR_disj (t t' : Fin 2) (h : t ≠ t') : Disjoint (subR t).set (subR t').set := by
  have h2 : t.val ≠ t'.val := fun e => h (Fin.ext e)
  refine Rect.unit_disjoint 1 ?_
  show 2048 * t.val + 2048 ≤ 2048 * t'.val ∨ 2048 * t'.val + 2048 ≤ 2048 * t.val
  omega

theorem subR_cover : (Finset.univ : Finset (Fin 2)).biUnion (fun t => (subR t).set) = Finset.univ :=
  Finset.eq_univ_iff_forall.mpr fun x => Finset.mem_biUnion.mpr
    ⟨⟨(x 1).val / 2048, by have : (x 1).val < 4096 := (x 1).isLt; omega⟩, Finset.mem_univ _, by
      rw [Rect.mem_set_unit]
      intro a
      fin_cases a
      · show 0 ≤ (x 0).val ∧ (x 0).val < 0 + 1024
        have : (x 0).val < 1024 := (x 0).isLt
        omega
      · show 2048 * ((x 1).val / 2048) ≤ (x 1).val ∧ (x 1).val < 2048 * ((x 1).val / 2048) + 2048
        omega⟩

theorem glue_sub {α : Type} (v : Fin 2 → S1024x2048.Idx → α) (p : Fin 2) : (fun j => glue v ((subR p).emb j)) = v p := by
  funext j
  have h1 : (j 1).val < 2048 := (j 1).isLt
  have e1 : (((subR p).emb j) 1).val = 2048 * p.val + 1 * (j 1).val := rfl
  have e0 : (((subR p).emb j) 0).val = 0 + 1 * (j 0).val := rfl
  have ep : (⟨(((subR p).emb j) 1).val / 2048, by rw [e1]; have := p.isLt; omega⟩ : Fin 2) = p := Fin.ext (by show (((subR p).emb j) 1).val / 2048 = p.val; rw [e1]; omega)
  have ej : tix (((subR p).emb j) 0) ⟨(((subR p).emb j) 1).val % 2048, Nat.mod_lt _ (by decide)⟩ = j := by
    funext a
    fin_cases a
    · exact Fin.ext (by show (((subR p).emb j) 0).val = (j 0).val; rw [e0]; omega)
    · exact Fin.ext (by show (((subR p).emb j) 1).val % 2048 = (j 1).val; rw [e1]; omega)
  unfold glue
  exact (congrArg (fun p' => v p' _) ep).trans (congrArg (v p) ej)

/-- Rectangles of unit stride with the same offsets and sizes are equal. -/
theorem rect_ext {s : Shape} {r r' : Rect s} (ho : r.off = r'.off) (hs : r.size = r'.size) (ht : r.stride = r'.stride) : r = r' := by
  cases r with | mk l p => cases r' with | mk l' p' =>
  cases l with | mk a1 a2 a3 a4 => cases l' with | mk b1 b2 b3 b4 =>
  cases ho; cases hs; cases ht; rfl

theorem within_sub (r : Fin 4) (d p : Fin 2) : (halfR (r, d)).within (subR p) (fun _ => rfl) = tileR (r, col d p) := by
  refine rect_ext (funext fun a => ?_) rfl rfl
  match a with
  | 0 => show 1024 * r.val + 0 = 1024 * r.val; omega
  | 1 => show 4096 * d.val + 2048 * p.val = 2048 * (2 * d.val + p.val); omega

omit [FloatOps F] in
/-- A slice of a slice of an array is owned as the slice with the same elements. -/
theorem owns_sub (c : Dev nD) (r₀ : Rect S4096x8192) (h₀ : ∀ a, r₀.stride a = 1) (r' : Rect r₀.shape) (h' : ∀ a, r'.stride a = 1)
    (rt : Rect S4096x8192) (ht : ∀ a, rt.stride a = 1) (e : r₀.within r' h₀ = rt) (q : PosShare TreeShare) (w : r'.shape.Idx → Elt F .i8) (w' : rt.shape.Idx → Elt F .i8) (hw : HEq w w') :
    (owns (c : Thread nD τ) ((bQ.slice r₀ h₀).slice r' h') q w : sProp 𝕄) = owns (c : Thread nD τ) (bQ.slice rt ht) q w' := by
  subst e
  cases hw
  have he := View.emb_slice_slice (View.whole main_v1_4) r₀ r' h₀
  have hs : (Finset.univ.map (((View.whole main_v1_4).slice r₀).slice r').emb : Finset (Idx ((c : Thread nD τ).loc main_v1_4)))
      = Finset.univ.map ((View.whole main_v1_4).slice (r₀.within r' h₀)).emb := congrArg (fun e => Finset.univ.map e) he
  unfold owns
  refine congrArg _ (funext fun f => ?_)
  have hr : ((bQ.slice r₀ h₀).slice r' h').view.read (Elt F) f = (bQ.slice (r₀.within r' h₀) ht).view.read (Elt F) f := by
    funext j
    exact congrArg f (DFunLike.congr_fun he j)
  rw [hr]
  exact congrArg (fun S : Finset (Idx ((c : Thread nD τ).loc main_v1_4)) => iprop(⌜(bQ.slice (r₀.within r' h₀) ht).view.read (Elt F) f = w⌝ ∗ (((c : Thread nD τ).loc main_v1_4) ↦[S]{q} f))) hs

omit [FloatOps F] in
theorem owns_half_tile (c : Dev nD) (r : Fin 4) (d p : Fin 2) (q : PosShare TreeShare) (w : S1024x2048.Idx → Elt F .i8) :
    (owns (c : Thread nD τ) ((qH r d).m.slice (subR p) (fun _ => rfl)) q w : sProp 𝕄) = has c (qT r (col d p)) q w :=
  owns_sub c (halfR (r, d)) (fun _ => rfl) (subR p) (fun _ => rfl) (tileR (r, col d p)) (fun _ => rfl) (within_sub r d p) q w w HEq.rfl

omit [FloatOps F] in
theorem half_parts (c : Dev nD) (r : Fin 4) (d : Fin 2) (q : PosShare TreeShare) (X : S1024x4096.Idx → Elt F .i8) :
    (BI.bigSep Finset.univ fun p => owns (c : Thread nD τ) ((qH r d).m.slice (subR p) (fun _ => rfl)) q (fun j => X ((subR p).emb j)) : sProp 𝕄)
      = iprop(has c (qT r (col d 0)) q (fun j => X ((subR 0).emb j)) ∗ has c (qT r (col d 1)) q (fun j => X ((subR 1).emb j))) := by
  rw [BI.bigSep_fin_two, owns_half_tile, owns_half_tile]
  rfl

omit [FloatOps F] in
/-- A half row of quantised values is its two tiles, -/
theorem half_split (c : Dev nD) (r : Fin 4) (d : Fin 2) (q : PosShare TreeShare) (v : Fin 2 → S1024x2048.Idx → Elt F .i8) :
    has c (qH r d) q (glue v) ⊢ (iprop(has c (qT r (col d 0)) q (v 0) ∗ has c (qT r (col d 1)) q (v 1)) : sProp 𝕄) := by
  have e := (half_parts c r d q (glue v)).trans
    (congrArg₂ (fun a b => iprop(has c (qT r (col d 0)) q a ∗ has c (qT r (col d 1)) q b)) (glue_sub v 0) (glue_sub v 1))
  exact (owns_rects (c : Thread nD τ) (qH r d).m q subR (fun _ _ => rfl) subR_disj subR_cover (glue v)).trans (Entails.of_eq e)

/-- and back. -/
theorem half_join (c : Dev nD) (r : Fin 4) (d : Fin 2) (q : PosShare TreeShare) (v : Fin 2 → S1024x2048.Idx → Elt F .i8) :
    (iprop(has c (qT r (col d 0)) q (v 0) ∗ has c (qT r (col d 1)) q (v 1)) : sProp 𝕄) ⊢ has c (qH r d) q (glue v) := by
  have e := (half_parts c r d q (glue v)).trans
    (congrArg₂ (fun a b => iprop(has c (qT r (col d 0)) q a ∗ has c (qT r (col d 1)) q b)) (glue_sub v 0) (glue_sub v 1))
  exact (Entails.of_eq e.symm).trans (owns_of_rects (c : Thread nD τ) (qH r d).m q subR (fun _ _ => rfl) subR_disj subR_cover (glue v))

omit [FloatOps F] in
theorem lent_half_split (c : Dev nD) (r : Fin 4) (d : Fin 2) :
    lent c (qH r d) ⊢ (iprop(lent c (qT r (col d 0)) ∗ lent c (qT r (col d 1))) : sProp 𝕄) := by
  refine (lent_has c _).trans ?_
  iintro ⟨%v, H⟩
  ihave H' := ((owns_rects (c : Thread nD τ) (qH r d).m fullShare subR (fun _ _ => rfl) subR_disj subR_cover v).trans (Entails.of_eq (half_parts c r d fullShare v))) $$ H
  icases H' with ⟨H0, H1⟩
  isplitl [H0]
  · iapply (has_lent c _ _) $$ H0
  · iapply (has_lent c _ _) $$ H1

end Cert.KernelIdeal.Work

end
-- ==== Proof.Values.lean ====
/-
  What every buffer holds, from the devices' blocks of the two operands: the tiles each device
  multiplies out, the partial sums that travel round the ring, what a device ends up with, its
  maximum, and the quantised and dequantised tiles.
-/
module

public import proofs.«01_k».proof.Proof.Geom

@[expose] public section

set_option maxRecDepth 16384

noncomputable section

namespace Cert.KernelIdeal.Work

open Idealize.ShloMosaic
open Cert.KernelIdeal.Gen

variable {F : FTy → Type} [FloatOps F]

/-- The devices' blocks of the two operands. -/
structure Inp (F : FTy → Type) where
  x : Dev nD → S4096x1024.Idx → Elt F .bf16
  w : Dev nD → S1024x8192.Idx → Elt F .bf16

abbrev xrowR (r : Fin 4) : Rect S4096x1024 := Rect.unit (s := S4096x1024) ![1024 * r.val, 0] S1024x1024.size (xrow_inb r)
abbrev wcolR (k : Fin 4) : Rect S1024x8192 := Rect.unit (s := S1024x8192) ![0, 2048 * k.val] S1024x2048.size (wcol_inb k)

/-- Rows `r` of a block of `x`, and columns `k` of a block of `w`, as loaded. -/
def xrow (x : S4096x1024.Idx → Elt F .bf16) (r : Fin 4) : Vec F S1024x1024 .bf16 :=
  (Memref.whole cc0_stg0_0 : Memref sig .tc .vmem S4096x1024 .bf16).view.readAt (Elt F) (xrowR r).toLoadRect x
def wcol (w : S1024x8192.Idx → Elt F .bf16) (k : Fin 4) : Vec F S1024x2048 .bf16 :=
  (Memref.whole cc0_stg1_0 : Memref sig .tc .vmem S1024x8192 .bf16).view.readAt (Elt F) (wcolR k).toLoadRect w

variable (D : Inp F)

/-- Tile `(r, k)` of device `c`'s own product. -/
def mm (c r k : Fin 4) : FVec F S1024x2048 .bf16 := k0_pay4 (xrow (D.x c) r) (wcol (D.w c) k)

/-- What device `c` sends in hop `s` of the reduce-scatter. -/
def sent (d p : Fin 2) : ℕ → Fin 4 → FVec F S1024x2048 .bf16
  | 0, c => mm D c (adv c d 1) (col d p)
  | s + 1, c => k0_pay20 (sent d p s (adv c d 1)) (mm D c (adv c d (2 + s)) (col d p))

/-- What device `c` receives in hop `s`. -/
abbrev rv (d p : Fin 2) (s : ℕ) (c : Fin 4) : FVec F S1024x2048 .bf16 := sent D d p s (adv c d 1)

/-- The tile of its own product device `c` adds last. -/
abbrev own (d p : Fin 2) (c : Fin 4) : FVec F S1024x2048 .bf16 := mm D c (adv c d 4) (col d p)

/-- What device `c` ends up with: the rectified sum over all devices. -/
def fin (d p : Fin 2) (c : Fin 4) : FVec F S1024x2048 .bf16 := k0_pay35 (rv D d p 2 c) (own D d p c)

/-- The maximum of a device's four tiles. -/
def mx (c : Fin 4) : F .f32 :=
  k0_pay40 (k0_pay37 (k0_pay34 (k0_pay30 (rv D 0 0 2 c) (own D 0 0 c)) (rv D 1 0 2 c) (own D 1 0 c)) (k0_pay36 (rv D 0 1 2 c) (own D 0 1 c))) (rv D 1 1 2 c) (own D 1 1 c)

/-- The row of device `c`'s maximum. -/
def amv (c : Fin 4) : FVec F S1x128 .f32 := k0_pay42 (mx D c)

/-- An index of a row of maxima. -/
def aix (j : Fin 128) : S1x128.Idx := fun a => match a with | 0 => (0 : Fin 1) | 1 => j

/-- The received rows of maxima, the last row zero. -/
def rows (c : Fin 4) : Vec F S4x128 .f32 := fun i =>
  if (i 0).val = 3 then k0_pay3 (F := F) i else amv D (adv c 0 (1 + (i 0).val)) (aix (i 1))

/-- The scale and its inverse, as device `c` computes them. -/
def scale (c : Fin 4) : F .f32 := k0_pay44 (mx D c) (rows D c)
def inv (c : Fin 4) : F .f32 := k0_pay45 (mx D c) (rows D c)

/-- A quantised tile of device `c`'s rows; the same tile of the result on device `c`; and tile `(d, p)`
    of device `e`'s rows as device `c` dequantises it. -/
def qv (d p : Fin 2) (c : Fin 4) : Vec F S1024x2048 .i8 := k0_pay51 (inv D c) (fin D d p c)
def ov (d p : Fin 2) (c : Fin 4) : FVec F S1024x2048 .bf16 := k0_pay52 (scale D c) (inv D c) (fin D d p c)
def dv (d p : Fin 2) (c e : Fin 4) : FVec F S1024x2048 .bf16 := k0_pay59 (scale D c) (qv D d p e)

/-- Tile `(r, k)` of the result on device `c`. -/
def outv (c r k : Fin 4) : FVec F S1024x2048 .bf16 :=
  if r = c then ov D ⟨k.val / 2, by have := k.isLt; omega⟩ ⟨k.val % 2, by omega⟩ c
  else dv D ⟨k.val / 2, by have := k.isLt; omega⟩ ⟨k.val % 2, by omega⟩ c r

/-- The result on device `c`. -/
def result (c : Fin 4) : S4096x8192.Idx → Elt F .bf16 := fun x =>
  outv D c (tileOf x).1 (tileOf x).2 (tix ⟨(x 0).val % 1024, Nat.mod_lt _ (by decide)⟩ ⟨(x 1).val % 2048, Nat.mod_lt _ (by decide)⟩)

theorem result_tile (c r k : Fin 4) : (fun j => result D c ((tileR (r, k)).emb j)) = outv D c r k := by
  funext j
  have h0 : (j 0).val < 1024 := (j 0).isLt
  have h1 : (j 1).val < 2048 := (j 1).isLt
  have e0 : (((tileR (r, k)).emb j) 0).val = 1024 * r.val + 1 * (j 0).val := rfl
  have e1 : (((tileR (r, k)).emb j) 1).val = 2048 * k.val + 1 * (j 1).val := rfl
  have et : tileOf ((tileR (r, k)).emb j) = (r, k) := by
    refine Prod.ext (Fin.ext ?_) (Fin.ext ?_)
    · show (((tileR (r, k)).emb j) 0).val / 1024 = r.val
      rw [e0]; omega
    · show (((tileR (r, k)).emb j) 1).val / 2048 = k.val
      rw [e1]; omega
  have ej : tix ⟨(((tileR (r, k)).emb j) 0).val % 1024, Nat.mod_lt _ (by decide)⟩ ⟨(((tileR (r, k)).emb j) 1).val % 2048, Nat.mod_lt _ (by decide)⟩ = j := by
    funext a
    fin_cases a
    · exact Fin.ext (by show (((tileR (r, k)).emb j) 0).val % 1024 = (j 0).val; rw [e0]; omega)
    · exact Fin.ext (by show (((tileR (r, k)).emb j) 1).val % 2048 = (j 1).val; rw [e1]; omega)
  unfold result
  rw [et, ej]

theorem rows_tile (c : Fin 4) (s : Fin 4) : (fun j => rows D c ((rowR s).emb j)) = if s.val = 3 then (fun j => k0_pay3 (F := F) ((rowR s).emb j)) else amv D (adv c 0 (1 + s.val)) := by
  funext j
  have h0 : (j 0).val < 1 := (j 0).isLt
  have e0 : (((rowR s).emb j) 0).val = s.val + 1 * (j 0).val := rfl
  have e1 : (((rowR s).emb j) 1).val = 0 + 1 * (j 1).val := rfl
  have e0' : (((rowR s).emb j) 0).val = s.val := by rw [e0]; omega
  have ej : aix (((rowR s).emb j) 1) = j := by
    funext a
    fin_cases a
    · exact Fin.ext (by show 0 = (j 0).val; omega)
    · exact Fin.ext (by show (((rowR s).emb j) 1).val = (j 1).val; rw [e1]; omega)
  unfold rows
  rw [e0', ej]
  by_cases h : s.val = 3
  · rw [if_pos h, if_pos h]
  · rw [if_neg h, if_neg h]

theorem outv_own (c : Fin 4) (d p : Fin 2) : outv D c c (col d p) = ov D d p c := by
  unfold outv
  rw [if_pos rfl]
  have e1 : (⟨(col d p).val / 2, by have := (col d p).isLt; omega⟩ : Fin 2) = d := Fin.ext (by show (2 * d.val + p.val) / 2 = d.val; have := p.isLt; omega)
  have e2 : (⟨(col d p).val % 2, by omega⟩ : Fin 2) = p := Fin.ext (by show (2 * d.val + p.val) % 2 = p.val; have := p.isLt; omega)
  rw [e1, e2]

theorem adv_ne : ∀ (c : Fin 4) (d : Fin 2) (s : Fin 3), adv c d (1 + s.val) ≠ c := by decide

theorem outv_got (c : Fin 4) (d p : Fin 2) (s : Fin 3) : outv D c (adv c d (1 + s.val)) (col d p) = dv D d p c (adv c d (1 + s.val)) := by
  unfold outv
  rw [if_neg (adv_ne c d s)]
  have e1 : (⟨(col d p).val / 2, by have := (col d p).isLt; omega⟩ : Fin 2) = d := Fin.ext (by show (2 * d.val + p.val) / 2 = d.val; have := p.isLt; omega)
  have e2 : (⟨(col d p).val % 2, by omega⟩ : Fin 2) = p := Fin.ext (by show (2 * d.val + p.val) % 2 = p.val; have := p.isLt; omega)
  rw [e1, e2]

end Cert.KernelIdeal.Work

end
-- ==== Proof.Protocol.lean ====
/-
  The agreement between the devices: the transfers each starts, the cells they credit, what a
  credit hands over, what every device owes, and in which order the debts are paid.
-/
module

public import proofs.«01_k».proof.Proof.Values

@[expose] public section

set_option maxRecDepth 16384

noncomputable section

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The transfers -/

/-- The remote transfers a device starts: hop `s` of the reduce-scatter in direction `d` on half `p`,
    round `s` of the all-gather in direction `d`, step `s` of the ring of maxima. -/
inductive Tr where
  | rs (d p : Fin 2) (s : Fin 3)
  | ag (d : Fin 2) (s : Fin 3)
  | am (s : Fin 3)
deriving DecidableEq

/-- All of them, in the order they are started. -/
def Tr.all : List Tr :=
  [.rs 0 0 0, .rs 1 0 0, .rs 0 1 0, .rs 1 1 0, .rs 0 0 1, .rs 1 0 1, .rs 0 1 1, .rs 1 1 1,
   .rs 0 0 2, .rs 1 0 2, .rs 0 1 2, .rs 1 1 2, .am 0, .am 1, .am 2,
   .ag 0 0, .ag 1 0, .ag 0 1, .ag 1 1, .ag 0 2, .ag 1 2]

theorem Tr.mem_all (t : Tr) : t ∈ Tr.all := by
  rcases t with ⟨d, p, s⟩ | ⟨d, s⟩ | s <;> fin_cases s
  all_goals first
    | (fin_cases d <;> fin_cases p <;> decide)
    | (fin_cases d <;> decide)
    | decide

instance : Fintype Tr := ⟨⟨Tr.all, by decide⟩, Tr.mem_all⟩

/-- The direction of a transfer. -/
def Tr.dir : Tr → Fin 2
  | .rs d _ _ => d
  | .ag d _ => d
  | .am _ => 0

/-- The semaphores of a transfer: the sender's and the receiver's. -/
def Tr.snd : Tr → DmaSem sig
  | .rs d p s => rsS d s p
  | .ag d s => agS d s
  | .am s => amS s

def Tr.rcv : Tr → DmaSem sig
  | .rs d p s => rsR d s p
  | .ag d s => agR d s
  | .am s => amR s

/-- The bytes a transfer credits, by the size of what it moves. -/
def Tr.size : Tr → ℕ
  | .rs d p s => (slot d s p).m.view.dmaCredit
  | .ag d s => (qH 0 0).m.view.dmaCredit
  | .am s => amSrc.m.view.dmaCredit

/-- The order in which a device starts its transfers, -/
def Tr.ord : Tr → ℕ
  | .rs d p s => 4 * s.val + 2 * p.val + d.val
  | .am s => 12 + s.val
  | .ag d s => 15 + 2 * s.val + d.val

/-- and the level of the receiver's cell. -/
def Tr.lev : Tr → ℕ
  | .rs _ _ s => 2 + s.val
  | .am s => 5 + s.val
  | .ag _ s => 8 + s.val

theorem ord_inj : ∀ t t' : Tr, t.ord = t'.ord → t = t' := by decide
theorem size_pos (t : Tr) : 0 < t.size := by
  cases t <;> exact View.dmaCredit_pos _ (by decide)

/-! ## The cells -/

/-- A device's cells: the barrier, and for every transfer the sender's (`false`) and the receiver's (`true`). -/
abbrev Cl : Type := Option (Bool × Tr)

def csem : Cl → SemLoc sig
  | none => .reg barS
  | some (false, t) => .dma t.snd
  | some (true, t) => .dma t.rcv

theorem csem_inj : Function.Injective csem := by
  have h : ∀ a b : Cl, csem a = csem b → a = b := by decide +kernel
  exact fun a b => h a b

/-- Which cell a semaphore is. -/
def role (sm : SemLoc sig) : Option Cl := if h : ∃ k, csem k = sm then some h.choose else none

theorem role_csem (k : Cl) : role (csem k) = some k := by
  unfold role
  have h : ∃ k', csem k' = csem k := ⟨k, rfl⟩
  rw [dif_pos h]
  exact congrArg some (csem_inj h.choose_spec)

theorem csem_of_role {sm : SemLoc sig} {k : Cl} (h : role sm = some k) : sm = csem k := by
  unfold role at h
  by_cases hk : ∃ k, csem k = sm
  · rw [dif_pos hk] at h
    rw [← Option.some.inj h]; exact hk.choose_spec.symm
  · rw [dif_neg hk] at h; cases h

abbrev kcell (ck : Dev nD × Cl) : GSem nD τ sig := ((ck.1 : Thread nD τ), csem ck.2)
abbrev barC (c : Dev nD) : GSem nD τ sig := kcell (c, none)
abbrev sndC (c : Dev nD) (t : Tr) : GSem nD τ sig := kcell (c, some (false, t))
abbrev rcvC (c : Dev nD) (t : Tr) : GSem nD τ sig := kcell (c, some (true, t))

theorem kcell_inj : Function.Injective kcell := fun a b h =>
  Prod.ext (Fin.ext (congrArg (fun g : GSem nD τ sig => g.1.1.val) h)) (csem_inj (congrArg Prod.snd h))

/-- Where a transfer of device `c` goes. -/
abbrev dest (c : Dev nD) (t : Tr) : Dev nD := toward c t.dir

/-! ## What is handed over -/

variable (D : Inp F)

/-- What a transfer of device `c` lands on: lent by the receiver at the barrier. -/
def dstLent (c : Dev nD) (t : Tr) : sProp 𝕄 := match t with
  | .rs d p s => lent (toward c d) (slot d s p)
  | .ag d s => lent (toward c d) (qH (adv c d s.val) d)
  | .am s => lent (toward c 0) (amRow s)

/-- What the receipt of a transfer hands device `c`. -/
def recvPay (c : Dev nD) (t : Tr) : sProp 𝕄 := match t with
  | .rs d p s => has c (slot d s p) fullShare (sent D d p s.val (adv c d 1))
  | .ag d s => has c (qH (adv c d (1 + s.val)) d) fullShare (glue fun p => qv D d p (adv c d (1 + s.val)))
  | .am s => has c (amRow s) fullShare (amv D (adv c 0 (1 + s.val)))

/-- The row the ring of maxima sends in step `s`. -/
abbrev amFrom (s : Fin 3) : Tl .vmem S1x128 .f32 := match s with
  | 0 => amSrc
  | 1 => amRow 0
  | 2 => amRow 1

/-- What the completion of its own transfer hands device `c` back: the rows of maxima, which are the kernel's scratch. -/
def sendPay (c : Dev nD) (t : Tr) : sProp 𝕄 := match t with
  | .rs _ _ _ => iprop(emp)
  | .ag _ _ => iprop(emp)
  | .am s => has c (amFrom s) fullShare (amv D (adv c 0 s.val))

/-- The transfers of one direction. -/
def trs (d : Fin 2) : Finset Tr := Finset.univ.filter fun t => t.dir = d

/-- What the signal from direction `d`'s target hands device `c`. -/
def barPay (c : Dev nD) (d : Fin 2) : sProp 𝕄 := bigSep (trs d) (dstLent (F := F) c)

instance dstLent_storable (c : Dev nD) (t : Tr) : BI.Storable (upEmb : UEmb _ 𝕄) (dstLent (F := F) c t) := by
  cases t <;> unfold dstLent lent <;> infer_instance
instance recvPay_storable (c : Dev nD) (t : Tr) : BI.Storable (upEmb : UEmb _ 𝕄) (recvPay D c t) := by
  cases t <;> unfold recvPay has <;> infer_instance
instance sendPay_storable (c : Dev nD) (t : Tr) : BI.Storable (upEmb : UEmb _ 𝕄) (sendPay D c t) := by
  cases t <;> unfold sendPay has <;> infer_instance
instance barPay_storable (c : Dev nD) (d : Fin 2) : BI.Storable (upEmb : UEmb _ 𝕄) (barPay (F := F) c d) := by
  unfold barPay; infer_instance

/-! ## The schedule -/

/-- One round: a barrier cell has a unit from either neighbour, a transfer's cell the transfer's credit. -/
def Rd : Rounds.Schedule (GSem nD τ sig) (Fin 2) 𝕄 where
  duties g r := if r = 0 ∧ g.1.2 = .tc then (match role g.2 with
    | some none => Finset.univ
    | some (some _) => {0}
    | none => ∅) else ∅
  unitless _ := False
  amount g _ _ := match role g.2 with
    | some (some (_, t)) => t.size
    | _ => 1
  payload g _ d := match role g.2 with
    | some none => barPay g.1.1 d
    | some (some (false, t)) => sendPay D g.1.1 t
    | some (some (true, t)) => recvPay D g.1.1 t
    | none => iprop(emp)
  amount_pos g _ _ _ := by
    rcases role g.2 with _ | _ | ⟨b, t⟩
    · exact Nat.one_pos
    · exact Nat.one_pos
    · exact size_pos t

instance Rd_storable (g : GSem nD τ sig) (r : ℕ) (d : Fin 2) : BI.Storable (upEmb : UEmb _ 𝕄) ((Rd D).payload g r d) := by
  show BI.Storable upEmb (match role g.2 with
    | some none => barPay g.1.1 d
    | some (some (false, t)) => sendPay D g.1.1 t
    | some (some (true, t)) => recvPay D g.1.1 t
    | none => iprop(emp))
  rcases role g.2 with _ | _ | ⟨_ | _, t⟩ <;> infer_instance

section Sched
variable (c : Dev nD) (t : Tr)

theorem duties_bar : (Rd D).duties (barC c) 0 = Finset.univ := by
  dsimp only [Rd]; rw [if_pos ⟨rfl, rfl⟩, role_csem]
theorem duties_xfer (b : Bool) : (Rd D).duties (kcell (c, some (b, t))) 0 = {0} := by
  dsimp only [Rd]; rw [if_pos ⟨rfl, rfl⟩, role_csem]
theorem duties_later (g : GSem nD τ sig) : ∀ r, 1 ≤ r → (Rd D).duties g r = ∅ :=
  fun r hr => by dsimp only [Rd]; rw [if_neg fun h => by omega]
theorem amount_bar (d : Fin 2) : (Rd D).amount (barC c) 0 d = 1 := by
  dsimp only [Rd]; rw [role_csem]
theorem amount_xfer (b : Bool) (d : Fin 2) : (Rd D).amount (kcell (c, some (b, t))) 0 d = t.size := by
  dsimp only [Rd]; rw [role_csem]
theorem expect_bar : (Rd D).expect (barC c) 0 = 2 := by
  unfold Schedule.expect Schedule.amountOf
  rw [duties_bar, Finset.sum_congr rfl fun d _ => amount_bar D c d, Finset.sum_const, Finset.card_univ, Fintype.card_fin, smul_eq_mul]
theorem expect_xfer (b : Bool) : (Rd D).expect (kcell (c, some (b, t))) 0 = t.size := by
  unfold Schedule.expect Schedule.amountOf; rw [duties_xfer, Finset.sum_singleton, amount_xfer]
theorem payload_bar (d : Fin 2) : (Rd D).payload (barC c) 0 d = barPay c d := by
  dsimp only [Rd]; rw [role_csem]
theorem payload_snd (d : Fin 2) : (Rd D).payload (sndC c t) 0 d = sendPay D c t := by
  dsimp only [Rd]; rw [role_csem]
theorem payload_rcv (d : Fin 2) : (Rd D).payload (rcvC c t) 0 d = recvPay D c t := by
  dsimp only [Rd]; rw [role_csem]
theorem rest_bar : bigSep ((Rd D).duties (barC c) 0 \ ∅) (fun d => (Rd D).payload (barC c) 0 d) = iprop(barPay c 0 ∗ barPay c 1) := by
  rw [Finset.sdiff_empty, duties_bar, BI.bigSep_fin_two, payload_bar, payload_bar]; rfl
theorem rest_snd : bigSep ((Rd D).duties (sndC c t) 0 \ ∅) (fun d => (Rd D).payload (sndC c t) 0 d) = sendPay D c t := by
  rw [Finset.sdiff_empty, duties_xfer, bigSep_singleton, payload_snd]
theorem rest_rcv : bigSep ((Rd D).duties (rcvC c t) 0 \ ∅) (fun d => (Rd D).payload (rcvC c t) 0 d) = recvPay D c t := by
  rw [Finset.sdiff_empty, duties_xfer, bigSep_singleton, payload_rcv]

end Sched

/-! ## Debts and levels -/

/-- What device `c` owes once it has started its first `n` transfers. -/
def debtO (c : Dev nD) (n : ℕ) : CellTallies nD τ sig Unit :=
  ∑ t ∈ Finset.univ.filter (fun t : Tr => n ≤ t.ord), tallyAt (rcvC (dest c t) t) () t.size

theorem debtO_step (c : Dev nD) (t : Tr) (n : ℕ) (h : t.ord = n) : debtO c n = debtO c (n + 1) + tallyAt (rcvC (dest c t) t) () t.size := by
  unfold debtO
  have e : Finset.univ.filter (fun t' : Tr => n ≤ t'.ord) = insert t (Finset.univ.filter fun t' : Tr => n + 1 ≤ t'.ord) := by
    ext t'
    simp only [Finset.mem_filter, Finset.mem_univ, _root_.true_and, Finset.mem_insert]
    constructor
    · intro h'
      by_cases he : t'.ord = n
      · exact .inl (ord_inj _ _ (he.trans h.symm))
      · exact .inr (by omega)
    · rintro (rfl | h')
      · omega
      · omega
  rw [e, Finset.sum_insert (by simp only [Finset.mem_filter, Finset.mem_univ, true_and]; omega), add_comm]

theorem ord_lt : ∀ t : Tr, t.ord < 21 := by decide

theorem debtO_end (c : Dev nD) : debtO c 21 = 0 := by
  unfold debtO
  rw [Finset.filter_false_of_mem fun t _ => by have := ord_lt t; omega, Finset.sum_empty]

/-- Everything device `c` owes at launch: its transfers' credits and a unit to either neighbour's barrier. -/
def O₀ (c : Dev nD) : CellTallies nD τ sig Unit := debtO c 0 + tallyAt (barC (toward c 0)) () 1 + tallyAt (barC (toward c 1)) () 1

def L (g : GSem nD τ sig) : Finset Unit := if g.1.2 = .tc then {()} else ∅

/-- A cell's level: local and sending cells below the barriers, those below the receiving cells, in order. -/
def lv (g : GSem nD τ sig) (_ : Unit) : ℕ := match role g.2 with
  | some none => 1
  | some (some (true, t)) => t.lev
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barC c) u = 1 := by unfold lv; rw [role_csem]
theorem lv_rcv (c : Dev nD) (t : Tr) (u : Unit) : lv (rcvC c t) u = t.lev := by unfold lv; rw [role_csem]
theorem lv_snd (c : Dev nD) (t : Tr) (u : Unit) : lv (sndC c t) u = 0 := by unfold lv; rw [role_csem]

theorem debtO_pos {c : Dev nD} {n : ℕ} {g : GSem nD τ sig} {u : Unit} (h : 0 < debtO c n g u) : ∃ t : Tr, n ≤ t.ord ∧ g = rcvC (dest c t) t := by
  unfold debtO at h
  rw [Finset.sum_apply, Finsupp.finsetSum_apply] at h
  obtain ⟨t, ht, h⟩ := Finset.exists_ne_zero_of_sum_ne_zero (Nat.pos_iff_ne_zero.mp h)
  rw [tallyAt_apply] at h
  refine ⟨t, (Finset.mem_filter.mp ht).2, ?_⟩
  by_contra hn
  exact h (if_neg fun h' => hn h'.1)

/-- A wait for a cell below everything still owed. -/
theorem mayWait (c : Dev nD) (sm : SemLoc sig) (n k : ℕ) (hk : lv ((c : Thread nD τ), sm) () ≤ k) (h : ∀ t : Tr, n ≤ t.ord → k < t.lev) :
    (levAts L lv : sProp 𝕄) ⊢ MayWait (c : Thread nD τ) sm () (debtO c n) :=
  MayOwe.of_cut (L := L) (lev := lv) k (fun p hp => by rw [Finset.mem_singleton.mp hp, L_tc]; exact Finset.mem_singleton_self _)
    (fun g u hg => by obtain ⟨t, -, rfl⟩ := debtO_pos hg; rw [L_tc]; exact Finset.mem_singleton_self _)
    (fun p hp => by rw [Finset.mem_singleton.mp hp]; exact hk)
    (fun g u hg => by obtain ⟨t, ht, rfl⟩ := debtO_pos hg; rw [lv_rcv]; exact h t ht)

theorem lev_pos : ∀ (t : Tr), 0 < t.lev := by decide
theorem lev_gt1 : ∀ (t : Tr), 1 < t.lev := by decide

end Cert.KernelIdeal.Work

end
-- ==== Proof.Steps.lean ====
/-
  One transfer, one signal and one wait: what each needs and what it leaves, in terms of the
  agreement of the devices.
-/
module

public import proofs.«01_k».proof.Proof.Protocol

@[expose] public section

set_option maxRecDepth 16384

noncomputable section

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (D : Inp F)

/-- What every device knows: the cells' invariants, that every cell has been set up, and the levels. -/
def recs (K : Dev nD × Cl → ℕ) : sProp 𝕄 :=
  iprop((bigSep Finset.univ fun ck => cellInv ER (Rd D) (K ck) (kcell ck)) ∗ (bigSep Finset.univ fun ck => reached ER (kcell ck) 0) ∗ levAts L lv)

instance recs_persistent (K : Dev nD × Cl → ℕ) : BI.Persistent (recs D K) := by
  unfold recs; infer_instance

variable (K : Dev nD × Cl → ℕ)

theorem recs_inv (ck : Dev nD × Cl) : recs D K ⊢ cellInv ER (Rd D) (K ck) (kcell ck) := by
  have h : (bigSep Finset.univ fun ck => cellInv ER (Rd D) (K ck) (kcell ck) : sProp 𝕄) ⊢ cellInv ER (Rd D) (K ck) (kcell ck) := bigSep_elim (Finset.mem_univ ck)
  unfold recs
  iintro ⟨H, -, -⟩
  iapply h
  iexact H

theorem recs_reached (ck : Dev nD × Cl) : recs D K ⊢ reached ER (kcell ck) 0 := by
  have h : (bigSep Finset.univ fun ck => reached ER (kcell ck) 0 : sProp 𝕄) ⊢ reached ER (kcell ck) 0 := bigSep_elim (Finset.mem_univ ck)
  unfold recs
  iintro ⟨-, H, -⟩
  iapply h
  iexact H

theorem recs_lev : recs D K ⊢ levAts L lv := by
  unfold recs
  iintro ⟨-, -, H⟩
  iexact H

/-- What a device owes once it has started its first `n` transfers, whatever it has waited for. -/
def debt (c : Dev nD) (n : ℕ) : sProp 𝕄 := iprop(∃ W, owes (c : Thread nD τ) (debtO c n) W)

/-- What a device needs to start transfer `t`, beyond what it sends. -/
def Sk (c : Dev nD) (t : Tr) : sProp 𝕄 :=
  iprop(dutyTok ER (sndC c t) 0 0 ∗ dutyTok ER (rcvC (dest c t) t) 0 0 ∗ dstLent c t ∗ atPos ER (sndC c t) 0 ∅ 0)

/-- What it needs to wait for one of its receipts, -/
def Rk (c : Dev nD) (t : Tr) : sProp 𝕄 := iprop(cred (tallyAt (rcvC c t) () t.size) ∗ atPos ER (rcvC c t) 0 ∅ 0)

/-- and for the completion of one it has started. -/
def Snt (c : Dev nD) (t : Tr) : sProp 𝕄 := iprop(cred (tallyAt (sndC c t) () t.size) ∗ atPos ER (sndC c t) 0 ∅ 0)

variable {D K}

/-- Starting a transfer. -/
theorem send_gen {sp : Space} {s : Shape} {e : EltTy} (c : Dev nD) (t : Tr) (src dst : Tl sp s e) (q : PosShare TreeShare) (v : s.Idx → Elt F e) (n : ℕ)
    (hord : t.ord = n) (hN : dst.m.view.amount (.dma t.rcv) = t.size)
    (hdst : dstLent (F := F) c t = lent (dest c t) dst)
    (hs : has c src q v ⊢ sendPay D c t) (hr : has (dest c t) dst fullShare v ⊢ recvPay D (dest c t) t)
    {hsc : dst.m.view.ref.isScScratch = false} {hh : DmaTarget.Typed (nD := nD) (τ := τ) sp (.dma t.rcv) (.remote (Dev.tc (dest c t)) dst.m (.dma t.snd) hsc)} :
    iprop(recs D K ∗ Sk c t ∗ has c src q v ∗ debt c n)
      ⊢ WP (F := F) c (Prog.lift (.enqueueDma src.m (.remote (Dev.tc (dest c t)) dst.m (.dma t.snd) hsc) (.dma t.rcv) src.ok dst.ok hh)) fun _ => iprop(Snt c t ∗ debt c (n + 1)) := by
  unfold Sk debt
  rw [hdst]
  unfold lent anyAt
  rw [show has c src q v = iprop(∃ f, ⌜src.m.view.read (Elt F) f = v⌝ ∗ (src.m.view.loc (c : Thread nD τ) ↦[src.m.view.set]{q} f)) from rfl] at hs ⊢
  iintro ⟨#HR, ⟨Ht1, Ht2, ⟨%fd, Hd⟩, Hat⟩, ⟨%fs, %hv, Hsrc⟩, ⟨%W, HO⟩⟩
  iapply (Rounds.wp_send_pointsTo 𝒱₀ ER (Rd D) (c : Thread nD τ) none (κ₁ := K (c, some (false, t))) (κ₂ := K (dest c t, some (true, t)))
      (r₁ := 0) (r₂ := 0) (d₁ := 0) (d₂ := 0) (fd := fd) (fs := fs) (q := q)
      (by show (0 : Fin 2) ∈ (Rd D).duties (kcell (c, some (false, t))) 0; rw [duties_xfer D c t false]; exact Finset.mem_singleton_self _)
      (by show (0 : Fin 2) ∈ (Rd D).duties (kcell (dest c t, some (true, t))) 0; rw [duties_xfer D (dest c t) t true]; exact Finset.mem_singleton_self _)
      () () t.size hN (amount_xfer D c t false 0) (amount_xfer D (dest c t) t true 0) (debtO c (n + 1)) (debtO_step c t n hord) (W := W)
      (by refine BIBase.Entails.trans ?_ (hs.trans (Entails.of_eq (payload_snd D c t 0).symm))
          iintro H
          iexists fs
          isplitr
          · ipureintro; exact hv
          iexact H)
      (by refine BIBase.Entails.trans ?_ (hr.trans (Entails.of_eq (payload_rcv D (dest c t) t 0).symm))
          unfold has owns
          iintro H
          iexists _
          isplitr
          swap; · iexact H
          ipureintro; rw [View.read_write_univ]; exact hv)) $$ [Ht1 Ht2 Hd Hsrc HO]
  · isplitr; · iapply (recs_inv D K (c, some (false, t))); iexact HR
    isplitr; · iapply (recs_inv D K (dest c t, some (true, t))); iexact HR
    isplitl [Hsrc]; · iexact Hsrc
    isplitl [Hd]; · iexact Hd
    isplitl [HO]; · iexact HO
    isplitl [Ht1]; · iexact Ht1
    isplitr; · iapply (recs_reached D K (c, some (false, t))); iexact HR
    isplitl [Ht2]; · iexact Ht2
    iapply (recs_reached D K (dest c t, some (true, t))); iexact HR
  iintro ⟨Hc, HO⟩
  iapply (le_wp_ret _ _ _ _ _)
  unfold Snt
  isplitl [Hc Hat]
  · isplitl [Hc] <;> iassumption
  iexists W; iexact HO

/-- Waiting on one of the device's transfer cells. -/
theorem wait_gen {sp : Space} {s : Shape} {e : EltTy} (c : Dev nD) (t : Tr) (b : Bool) (x : Tl sp s e) (n k : ℕ)
    (hN : x.m.view.dmaCredit = t.size) (hk : lv (kcell (c, some (b, t))) () ≤ k) (hl : ∀ t' : Tr, n ≤ t'.ord → k < t'.lev) {sm : DmaSem sig}
    (hsm : SemLoc.dma sm = csem (some (b, t))) :
    iprop(recs D K ∗ cred (tallyAt (kcell (c, some (b, t))) () t.size) ∗ atPos ER (kcell (c, some (b, t))) 0 ∅ 0 ∗ debt c n)
      ⊢ WP c (waitOn (F := F) sm x) fun _ =>
        iprop(zero c sm ∗ (bigSep ((Rd D).duties (kcell (c, some (b, t))) 0 \ ∅) fun d => (Rd D).payload (kcell (c, some (b, t))) 0 d) ∗ debt c n) := by
  unfold debt
  unfold zero kcell
  dsimp only
  rw [← hsm, ← hN]
  iintro ⟨#HR, Hc, Hat, ⟨%W, HO⟩⟩
  ihave #HI := (recs_inv D K (c, some (b, t))) $$ HR
  iapply (Rounds.wp_wait_rest_token 𝒱₀ ER (Rd D) (c : Thread nD τ) none (κ := K (c, some (b, t)))
      (wpE_waitDma2_eq 𝒱₀ (c : Thread nD τ) none Set.univ) (Set.mem_univ _) () (O := debtO c n) (W := W) (R := 0) (m := 0) (T := ∅)
      (by rw [Nat.zero_add, hN]; refine Eq.symm ?_; rw [hsm]; exact expect_xfer D c t b)) $$ [Hc HO Hat]
  · isplitr
    · rw [hsm]; iexact HI
    isplitl [Hc]; · iexact Hc
    isplitl [HO]; · iexact HO
    isplitr
    · rw [hsm]; iapply (mayWait c (csem (some (b, t))) n k hk hl); iapply (recs_lev D K); iexact HR
    iexact Hat
  iintro ⟨HO, Hat, -, Hp⟩
  imod (Rounds.cell_close ER (Rd D) (Set.mem_univ (K (c, some (b, t)))) (fun h => h) (R := 0 + 1) (duties_later D _)) $$ [Hat] with Hz
  · isplitr
    swap; · iexact Hat
    rw [hsm]; iexact HI
  iapply (le_wp_ret _ _ _ _ _)
  isplitl [Hz]; · iexact Hz
  isplitl [Hp]; · iexact Hp
  iexists _; iexact HO

/-- Waiting for the completion of a transfer the device started. -/
theorem wait_sent {sp : Space} {s : Shape} {e : EltTy} (c : Dev nD) (t : Tr) (x : Tl sp s e) (n : ℕ) (hN : x.m.view.dmaCredit = t.size) :
    iprop(recs D K ∗ Snt c t ∗ debt c n) ⊢ WP c (waitOn (F := F) t.snd x) fun _ => iprop(zero c t.snd ∗ sendPay D c t ∗ debt c n) := by
  have h := wait_gen (D := D) (K := K) c t false x n 0 hN (le_of_eq (lv_snd c t ())) (fun t' _ => lev_pos t') (sm := t.snd) rfl
  rw [rest_snd D c t] at h
  unfold Snt
  refine BIBase.Entails.trans ?_ h
  iintro ⟨HR, ⟨Hc, Ha⟩, Hd⟩
  isplitl [HR]; · iexact HR
  isplitl [Hc]; · iexact Hc
  isplitl [Ha] <;> iassumption

/-- Waiting for a receipt. -/
theorem wait_rcvd {sp : Space} {s : Shape} {e : EltTy} (c : Dev nD) (t : Tr) (x : Tl sp s e) (n : ℕ) (hN : x.m.view.dmaCredit = t.size)
    (hl : ∀ t' : Tr, n ≤ t'.ord → t.lev < t'.lev) :
    iprop(recs D K ∗ Rk c t ∗ debt c n) ⊢ WP c (waitOn (F := F) t.rcv x) fun _ => iprop(zero c t.rcv ∗ recvPay D c t ∗ debt c n) := by
  have h := wait_gen (D := D) (K := K) c t true x n t.lev hN (le_of_eq (lv_rcv c t ())) hl (sm := t.rcv) rfl
  rw [rest_rcv D c t] at h
  unfold Rk
  refine BIBase.Entails.trans ?_ h
  iintro ⟨HR, ⟨Hc, Ha⟩, Hd⟩
  isplitl [HR]; · iexact HR
  isplitl [Hc]; · iexact Hc
  isplitl [Ha] <;> iassumption

theorem lv_local (c : Dev nD) (i : Fin 2) : lv ((c : Thread nD τ), SemLoc.dma (lsem i)) () = 0 := by
  unfold lv
  have h : role (SemLoc.dma (lsem i) : SemLoc sig) = none := by
    unfold role
    rw [dif_neg]
    have : ∀ (i : Fin 2) (k : Cl), csem k ≠ SemLoc.dma (lsem i) := by decide +kernel
    rintro ⟨k, hk⟩
    exact this i k hk
  rw [h]

/-- Waiting for a local copy. -/
theorem wait_here {c : Dev nD} {sp sp' : Space} {s : Shape} {e : EltTy} (src : Tl sp s e) (dst : Tl sp' s e) (i : Fin 2) (q : PosShare TreeShare) (v : s.Idx → Elt F e) (n : ℕ) :
    iprop(recs D K ∗ flying c src dst i q v ∗ debt c n)
      ⊢ WP c (waitOn (F := F) (lsem i) dst) fun _ => iprop(has c dst fullShare v ∗ has c src q v ∗ zero c (lsem i) ∗ debt c n) := by
  unfold debt
  iintro ⟨#HR, HF, ⟨%W, HO⟩⟩
  iapply (last (wait_local src dst i q v (O := debtO c n) (W := W)))
  isplitl [HF HO]
  · isplitl [HF]; · iexact HF
    isplitl [HO]; · iexact HO
    iapply (mayWait c (.dma (lsem i)) n 0 (le_of_eq (lv_local c i)) (fun t' _ => lev_pos t'))
    iapply (recs_lev D K); iexact HR
  iintro %_ ⟨Hd, Hs, Hz, HO⟩
  isplitl [Hd]; · iexact Hd
  isplitl [Hs]; · iexact Hs
  isplitl [Hz]; · iexact Hz
  iexists _; iexact HO

end Cert.KernelIdeal.Work

end
-- ==== Proof.Hops.lean ====
/-
  The kernel's building blocks: a hop of the reduce-scatter, a row of the product, a step of the ring
  of maxima, the quantising and dequantising of a tile, each with what it needs and what it leaves.
-/
module

public import proofs.«01_k».proof.Proof.Steps

@[expose] public section

set_option maxRecDepth 16384

noncomputable section

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable {D : Inp F} {K : Dev nD × Cl → ℕ}

/-! ## Sends -/

theorem send_rs (c : Dev nD) (d p : Fin 2) (s : Fin 3) (src : Tl .hbm S1024x2048 .bf16) (n : ℕ) (hord : (Tr.rs d p s).ord = n) :
    iprop(recs D K ∗ Sk c (.rs d p s) ∗ has c src fullShare (sent D d p s.val c) ∗ debt c n)
      ⊢ WP (F := F) c (sendTo (toward c d) src (slot d s p) (rsS d s p) (rsR d s p)) fun _ => iprop(Snt c (.rs d p s) ∗ debt c (n + 1)) :=
  send_gen c (.rs d p s) src (slot d s p) fullShare _ n hord rfl rfl
    (by unfold sendPay; iintro -; iempintro)
    (by unfold recvPay; dsimp only [dest, Tr.dir]; rw [from_toward])

theorem send_ag (c : Dev nD) (d : Fin 2) (s : Fin 3) (q : PosShare TreeShare) (n : ℕ) (hord : (Tr.ag d s).ord = n) :
    iprop(recs D K ∗ Sk c (.ag d s) ∗ has c (qH (adv c d s.val) d) q (glue fun p => qv D d p (adv c d s.val)) ∗ debt c n)
      ⊢ WP (F := F) c (gatherSend c s d) fun _ => iprop(Snt c (.ag d s) ∗ debt c (n + 1)) := by
  unfold gatherSend
  rw [qHalf_eq]
  exact send_gen c (.ag d s) (qH (adv c d s.val) d) (qH (adv c d s.val) d) q _ n hord rfl rfl
    (by unfold sendPay; iintro -; iempintro)
    (by unfold recvPay; dsimp only [dest, Tr.dir]; rw [← adv_adv, from_toward])

theorem send_am (c : Dev nD) (s : Fin 3) (n : ℕ) (hord : (Tr.am s).ord = n) :
    iprop(recs D K ∗ Sk c (.am s) ∗ has c (amFrom s) fullShare (amv D (adv c 0 s.val)) ∗ debt c n)
      ⊢ WP (F := F) c (sendRow (toward c 0) (amFrom s) (amRow s) (amS s) (amR s)) fun _ => iprop(Snt c (.am s) ∗ debt c (n + 1)) :=
  send_gen c (.am s) (amFrom s) (amRow s) fullShare _ n hord rfl rfl
    (by unfold sendPay; exact BIBase.Entails.rfl)
    (by unfold recvPay; dsimp only [dest, Tr.dir]; rw [← adv_adv, from_toward])

/-! ## Local copies -/

theorem copy_in {c : Dev nD} {e : EltTy} (src : Tl .hbm S1024x2048 e) (dst : Tl .vmem S1024x2048 e) (i : Fin 2) (q : PosShare TreeShare) (v : S1024x2048.Idx → Elt F e) (n : ℕ) :
    iprop(recs D K ∗ has c src q v ∗ lent c dst ∗ zero c (lsem i) ∗ debt c n)
      ⊢ WP c (copyIn (F := F) src dst i) fun _ => iprop(has c dst fullShare v ∗ has c src q v ∗ zero c (lsem i) ∗ debt c n) := by
  iintro ⟨#HR, Hs, Hd, Hz, HO⟩
  iapply (seq (start_in src dst i q v))
  isplitl [Hs Hd Hz]
  · isplitl [Hs]; · iexact Hs
    isplitl [Hd] <;> iassumption
  iintro %_ HF
  iapply (wait_here (D := D) (K := K) src dst i q v n)
  isplitr; · iexact HR
  isplitl [HF] <;> iassumption

theorem copy_out {c : Dev nD} {e : EltTy} (src : Tl .vmem S1024x2048 e) (dst : Tl .hbm S1024x2048 e) (i : Fin 2) (q : PosShare TreeShare) (v : S1024x2048.Idx → Elt F e) (n : ℕ) :
    iprop(recs D K ∗ has c src q v ∗ lent c dst ∗ zero c (lsem i) ∗ debt c n)
      ⊢ WP c (copyOut (F := F) src dst i) fun _ => iprop(has c dst fullShare v ∗ has c src q v ∗ zero c (lsem i) ∗ debt c n) := by
  iintro ⟨#HR, Hs, Hd, Hz, HO⟩
  iapply (seq (start_out src dst i q v))
  isplitl [Hs Hd Hz]
  · isplitl [Hs]; · iexact Hs
    isplitl [Hd] <;> iassumption
  iintro %_ HF
  iapply (wait_here (D := D) (K := K) src dst i q v n)
  isplitr; · iexact HR
  isplitl [HF] <;> iassumption

/-- What every phase has at hand: the staging tiles, the local semaphores and the debt. -/
def sh (c : Dev nD) (n : ℕ) : sProp 𝕄 :=
  iprop(lent c ta ∗ lent c tb ∗ lent c tq ∗ zero c (lsem 0) ∗ zero c (lsem 1) ∗ debt c n)

/-! ## The hops -/

theorem rs_below (d p : Fin 2) (s : Fin 3) (n : ℕ) (h : 4 * (s.val + 1) ≤ n) : ∀ t' : Tr, n ≤ t'.ord → (Tr.rs d p s).lev < t'.lev := by
  have : ∀ (s : Fin 3) (t' : Tr), 4 * (s.val + 1) ≤ t'.ord → 2 + s.val < t'.lev := by decide
  exact fun t' h' => this s t' (h.trans h')

theorem hop_in (c : Dev nD) (d p : Fin 2) (s : Fin 3) (b : S1024x2048.Idx → Elt F .bf16) (n : ℕ) (h : 4 * (s.val + 1) ≤ n) :
    iprop(recs D K ∗ sh c n ∗ has c (accT (adv c d (2 + s.val)) (col d p)) fullShare b ∗ Rk c (.rs d p s))
      ⊢ WP (F := F) c (hopIn c d p s) fun ab => iprop(⌜ab = (rv D d p s.val c, b)⌝ ∗ sh c n ∗ lent c (slot d s p) ∗ zero c (rsR d s p)) := by
  unfold hopIn
  rw [accHop_eq]
  iintro ⟨#HR, HS, Hacc, HK⟩
  unfold sh
  icases HS with ⟨Ha, Hb, Hq, H0, H1, HO⟩
  iapply (seq (wait_rcvd (D := D) (K := K) c (.rs d p s) (slot d s p) n rfl (rs_below d p s n h)))
  isplitl [HK HO]
  · isplitr; · iexact HR
    isplitl [HK] <;> iassumption
  iintro %_ ⟨Hz, Hp, HO⟩
  unfold recvPay
  iapply (seq (copy_in (D := D) (K := K) (slot d s p) ta 0 fullShare (rv D d p s.val c) n))
  isplitl [Hp Ha H0 HO]
  · isplitr; · iexact HR
    isplitl [Hp]; · iexact Hp
    isplitl [Ha]; · iexact Ha
    isplitl [H0] <;> iassumption
  iintro %_ ⟨Ha, Hp, H0, HO⟩
  iapply (seq (copy_in (D := D) (K := K) (accT (adv c d (2 + s.val)) (col d p)) tb 1 fullShare b n))
  isplitl [Hacc Hb H1 HO]
  · isplitr; · iexact HR
    isplitl [Hacc]; · iexact Hacc
    isplitl [Hb]; · iexact Hb
    isplitl [H1] <;> iassumption
  iintro %_ ⟨Hb, -, H1, HO⟩
  iapply (seq (get_ta fullShare (rv D d p s.val c)))
  isplitl [Ha]; · iexact Ha
  iintro %a ⟨%ea, Ha⟩
  iapply (seq (get_tb fullShare b))
  isplitl [Hb]; · iexact Hb
  iintro %b' ⟨%eb, Hb⟩
  iapply (seq (get_ta fullShare (rv D d p s.val c)))
  isplitl [Ha]; · iexact Ha
  iintro %_ ⟨-, Ha⟩
  iapply (done _ _)
  isplitr
  · ipureintro; rw [ea, eb]
  isplitr [Hp Hz]
  · isplitl [Ha]; · iapply (has_lent c ta _); iexact Ha
    isplitl [Hb]; · iapply (has_lent c tb _); iexact Hb
    isplitl [Hq]; · iexact Hq
    isplitl [H0]; · iexact H0
    isplitl [H1] <;> iassumption
  isplitl [Hp]; · iapply (has_lent c (slot d s p) _); iexact Hp
  iexact Hz

theorem hop_out (c : Dev nD) (d p : Fin 2) (s : Fin 3) (v : FVec F S1024x2048 .bf16) (n : ℕ) :
    iprop(recs D K ∗ sh c n ∗ lent c (slot d s p)) ⊢ WP (F := F) c (hopOut d p s v) fun _ => iprop(sh c n ∗ has c (slot d s p) fullShare v) := by
  unfold hopOut sh
  iintro ⟨#HR, ⟨Ha, Hb, Hq, H0, H1, HO⟩, Hs⟩
  iapply (seq (put_ta v))
  isplitl [Ha]; · iexact Ha
  iintro %_ Ha
  iapply (last (copy_out (D := D) (K := K) ta (slot d s p) 0 fullShare v n))
  isplitl [Ha Hs H0 HO]
  · isplitr; · iexact HR
    isplitl [Ha]; · iexact Ha
    isplitl [Hs]; · iexact Hs
    isplitl [H0] <;> iassumption
  iintro %_ ⟨Hs, Ha, H0, HO⟩
  isplitr [Hs]
  · isplitl [Ha]; · iapply (has_lent c ta _); iexact Ha
    isplitl [Hb]; · iexact Hb
    isplitl [Hq]; · iexact Hq
    isplitl [H0]; · iexact H0
    isplitl [H1] <;> iassumption
  iexact Hs

theorem hop_mid (c : Dev nD) (d p : Fin 2) (s s' : Fin 3) (n : ℕ) (hs : s'.val = s.val + 1) (hord : (Tr.rs d p s').ord = n) :
    iprop(recs D K ∗ sh c n ∗ has c (accT (adv c d (2 + s.val)) (col d p)) fullShare (mm D c (adv c d (2 + s.val)) (col d p)) ∗ Rk c (.rs d p s) ∗ Sk c (.rs d p s'))
      ⊢ WP (F := F) c (hopMid c d p s s') fun _ => iprop(sh c (n + 1) ∗ Snt c (.rs d p s') ∗ zero c (rsR d s p)) := by
  have h : 4 * (s.val + 1) ≤ n := by
    rw [← hord, ← hs]; show 4 * s'.val ≤ 4 * s'.val + 2 * p.val + d.val; omega
  unfold hopMid sendOn
  iintro ⟨#HR, HS, Hacc, HK, Hsk⟩
  iapply (seq (hop_in (D := D) (K := K) c d p s (mm D c (adv c d (2 + s.val)) (col d p)) n h))
  isplitl [HS Hacc HK]
  · isplitr; · iexact HR
    isplitl [HS]; · iexact HS
    isplitl [Hacc] <;> iassumption
  iintro %ab ⟨%eab, HS, Hs, Hz⟩
  subst eab
  iapply (seq (hop_out (D := D) (K := K) c d p s (k0_pay20 (rv D d p s.val c) (mm D c (adv c d (2 + s.val)) (col d p))) n))
  isplitl [HS Hs]
  · isplitr; · iexact HR
    isplitl [HS] <;> iassumption
  iintro %_ ⟨HS, Hs⟩
  unfold sh
  icases HS with ⟨Ha, Hb, Hq, H0, H1, HO⟩
  iapply (last (send_rs (D := D) (K := K) c d p s' (slot d s p) n hord))
  isplitl [Hsk Hs HO]
  · isplitr; · iexact HR
    isplitl [Hsk]; · iexact Hsk
    isplitl [Hs]
    · rw [hs]; iexact Hs
    iexact HO
  iintro %_ ⟨Hn, HO⟩
  isplitr [Hn Hz]
  · isplitl [Ha]; · iexact Ha
    isplitl [Hb]; · iexact Hb
    isplitl [Hq]; · iexact Hq
    isplitl [H0]; · iexact H0
    isplitl [H1] <;> iassumption
  isplitl [Hn] <;> iassumption

theorem hop_last (c : Dev nD) (d p : Fin 2) (g : Vec F S1024x2048 .bf16 → Vec F S1024x2048 .bf16 → F .f32)
    (st : Vec F S1024x2048 .bf16 → Vec F S1024x2048 .bf16 → FVec F S1024x2048 .bf16) (n : ℕ) (hn : 12 ≤ n) :
    iprop(recs D K ∗ sh c n ∗ has c (accT (adv c d 4) (col d p)) fullShare (own D d p c) ∗ Rk c (.rs d p 2))
      ⊢ WP (F := F) c (hopLast c d p g st) fun r => iprop(⌜r = g (rv D d p 2 c) (own D d p c)⌝ ∗ sh c n ∗ has c (slot d 2 p) fullShare (st (rv D d p 2 c) (own D d p c)) ∗ zero c (rsR d 2 p)) := by
  unfold hopLast
  iintro ⟨#HR, HS, Hacc, HK⟩
  iapply (seq (hop_in (D := D) (K := K) c d p 2 (own D d p c) n hn))
  isplitl [HS Hacc HK]
  · isplitr; · iexact HR
    isplitl [HS]; · iexact HS
    isplitl [Hacc] <;> iassumption
  iintro %ab ⟨%eab, HS, Hs, Hz⟩
  subst eab
  iapply (seq (hop_out (D := D) (K := K) c d p 2 (st (rv D d p 2 c) (own D d p c)) n))
  isplitl [HS Hs]
  · isplitr; · iexact HR
    isplitl [HS] <;> iassumption
  iintro %_ ⟨HS, Hs⟩
  iapply (done _ _)
  isplitr; · ipureintro; rfl
  isplitl [HS]; · iexact HS
  isplitl [Hs] <;> iassumption

theorem sentFrom_size (c : Dev nD) (d p : Fin 2) (s : Fin 3) : (sentFrom c d p s).m.view.dmaCredit = (Tr.rs d p s).size := by
  fin_cases s
  · show (accFirst c d p).m.view.dmaCredit = _
    rw [accFirst_eq]; fin_cases d <;> rfl
  · fin_cases d <;> rfl
  · fin_cases d <;> rfl

theorem sent_wait (c : Dev nD) (s : Fin 3) (d p : Fin 2) (n : ℕ) :
    iprop(recs D K ∗ Snt c (.rs d p s) ∗ debt c n) ⊢ WP (F := F) c (sentWait c s d p) fun _ => iprop(zero c (rsS d s p) ∗ debt c n) := by
  unfold sentWait
  iintro H
  iapply (last (wait_sent (D := D) (K := K) c (.rs d p s) (sentFrom c d p s) n (sentFrom_size c d p s)))
  isplitl [H]; · iexact H
  iintro %_ ⟨Hz, -, HO⟩
  isplitl [Hz]; · iexact Hz
  iexact HO

/-! ## The ring of maxima -/

theorem am_below (s : Fin 3) (n : ℕ) (h : 13 + s.val ≤ n) : ∀ t' : Tr, n ≤ t'.ord → (Tr.am s).lev < t'.lev := by
  have : ∀ (s : Fin 3) (t' : Tr), 13 + s.val ≤ t'.ord → 5 + s.val < t'.lev := by decide
  exact fun t' h' => this s t' (h.trans h')

theorem max_step (c : Dev nD) (s : Fin 3) :
    iprop(recs D K ∗ Sk c (.am s) ∗ Rk c (.am s) ∗ has c (amFrom s) fullShare (amv D (adv c 0 s.val)) ∗ debt c (12 + s.val))
      ⊢ WP (F := F) c (maxStep c (amFrom s) s) fun _ => iprop(has c (amFrom s) fullShare (amv D (adv c 0 s.val)) ∗ has c (amRow s) fullShare (amv D (adv c 0 (1 + s.val)))
          ∗ zero c (amS s) ∗ zero c (amR s) ∗ debt c (13 + s.val)) := by
  unfold maxStep
  iintro ⟨#HR, Hk, HK, Hm, HO⟩
  iapply (seq (send_am (D := D) (K := K) c s (12 + s.val) rfl))
  isplitl [Hk Hm HO]
  · isplitr; · iexact HR
    isplitl [Hk]; · iexact Hk
    isplitl [Hm] <;> iassumption
  iintro %_ ⟨Hn, HO⟩
  rw [show 12 + s.val + 1 = 13 + s.val by omega]
  iapply (seq (wait_sent (D := D) (K := K) c (.am s) (amFrom s) (13 + s.val) (by fin_cases s <;> rfl)))
  isplitl [Hn HO]
  · isplitr; · iexact HR
    isplitl [Hn] <;> iassumption
  iintro %_ ⟨Hz, Hm, HO⟩
  iapply (last (wait_rcvd (D := D) (K := K) c (.am s) (amRow s) (13 + s.val) rfl (am_below s _ le_rfl)))
  isplitl [HK HO]
  · isplitr; · iexact HR
    isplitl [HK] <;> iassumption
  iintro %_ ⟨Hz', Hp, HO⟩
  unfold recvPay sendPay
  isplitl [Hm]; · iexact Hm
  isplitl [Hp]; · iexact Hp
  isplitl [Hz]; · iexact Hz
  isplitl [Hz']; · iexact Hz'
  iexact HO

/-! ## Quantising -/

theorem quant_spec (c : Dev nD) (gq : Vec F S1024x2048 .bf16 → Vec F S1024x2048 .i8) (gb : Vec F S1024x2048 .bf16 → Vec F S1024x2048 .bf16) (d p : Fin 2) (a : S1024x2048.Idx → Elt F .bf16) (n : ℕ) :
    iprop(recs D K ∗ sh c n ∗ has c (slot d 2 p) fullShare a ∗ lent c (qT c (col d p)) ∗ lent c (outT c (col d p)))
      ⊢ WP (F := F) c (quant c gq gb d p) fun _ => iprop(sh c n ∗ has c (qT c (col d p)) fullShare (gq a) ∗ has c (outT c (col d p)) fullShare (gb a)) := by
  unfold quant sh
  rw [qOwn_eq, outOwn_eq]
  iintro ⟨#HR, ⟨Ha, Hb, Hq, H0, H1, HO⟩, Hs, HQ, Hout⟩
  iapply (seq (copy_in (D := D) (K := K) (slot d 2 p) ta 0 fullShare a n))
  isplitl [Hs Ha H0 HO]
  · isplitr; · iexact HR
    isplitl [Hs]; · iexact Hs
    isplitl [Ha]; · iexact Ha
    isplitl [H0] <;> iassumption
  iintro %_ ⟨Ha, -, H0, HO⟩
  iapply (seq (get_ta fullShare a))
  isplitl [Ha]; · iexact Ha
  iintro %a' ⟨%ea, Ha⟩
  subst ea
  ihave ⟨%w, Hq⟩ := (lent_has c tq) $$ Hq
  iapply (seq (get_tq fullShare w))
  isplitl [Hq]; · iexact Hq
  iintro %_ ⟨-, Hq⟩
  ihave Hq := (has_lent c tq w) $$ Hq
  iapply (seq (put_tq (gq a')))
  isplitl [Hq]; · iexact Hq
  iintro %_ Hq
  iapply (seq (copy_out (D := D) (K := K) tq (qT c (col d p)) 0 fullShare (gq a') n))
  isplitl [Hq HQ H0 HO]
  · isplitr; · iexact HR
    isplitl [Hq]; · iexact Hq
    isplitl [HQ]; · iexact HQ
    isplitl [H0] <;> iassumption
  iintro %_ ⟨HQ, Hq, H0, HO⟩
  ihave ⟨%w', Hb⟩ := (lent_has c tb) $$ Hb
  iapply (seq (get_tb fullShare w'))
  isplitl [Hb]; · iexact Hb
  iintro %_ ⟨-, Hb⟩
  ihave Hb := (has_lent c tb w') $$ Hb
  iapply (seq (put_tb (gb a')))
  isplitl [Hb]; · iexact Hb
  iintro %_ Hb
  iapply (last (copy_out (D := D) (K := K) tb (outT c (col d p)) 1 fullShare (gb a') n))
  isplitl [Hb Hout H1 HO]
  · isplitr; · iexact HR
    isplitl [Hb]; · iexact Hb
    isplitl [Hout]; · iexact Hout
    isplitl [H1] <;> iassumption
  iintro %_ ⟨Hout, Hb, H1, HO⟩
  isplitr [HQ Hout]
  · isplitl [Ha]; · iapply (has_lent c ta _); iexact Ha
    isplitl [Hb]; · iapply (has_lent c tb _); iexact Hb
    isplitl [Hq]; · iapply (has_lent c tq _); iexact Hq
    isplitl [H0]; · iexact H0
    isplitl [H1] <;> iassumption
  isplitl [HQ] <;> iassumption

theorem dequant_spec (c : Dev nD) (g : Vec F S1024x2048 .i8 → Vec F S1024x2048 .bf16) (s : Fin 3) (d p : Fin 2) (q : PosShare TreeShare) (v : S1024x2048.Idx → Elt F .i8) (n : ℕ) :
    iprop(recs D K ∗ sh c n ∗ has c (qT (adv c d (1 + s.val)) (col d p)) q v ∗ lent c (outT (adv c d (1 + s.val)) (col d p)))
      ⊢ WP (F := F) c (dequant c g s d p) fun _ => iprop(sh c n ∗ has c (qT (adv c d (1 + s.val)) (col d p)) q v ∗ has c (outT (adv c d (1 + s.val)) (col d p)) fullShare (g v)) := by
  unfold dequant sh
  rw [qGot_eq, outGot_eq]
  iintro ⟨#HR, ⟨Ha, Hb, Hq, H0, H1, HO⟩, HQ, Hout⟩
  iapply (seq (copy_in (D := D) (K := K) (qT (adv c d (1 + s.val)) (col d p)) tq 0 q v n))
  isplitl [HQ Hq H0 HO]
  · isplitr; · iexact HR
    isplitl [HQ]; · iexact HQ
    isplitl [Hq]; · iexact Hq
    isplitl [H0] <;> iassumption
  iintro %_ ⟨Hq, HQ, H0, HO⟩
  iapply (seq (get_tq fullShare v))
  isplitl [Hq]; · iexact Hq
  iintro %v' ⟨%ev, Hq⟩
  subst ev
  ihave ⟨%w', Hb⟩ := (lent_has c tb) $$ Hb
  iapply (seq (get_tb fullShare w'))
  isplitl [Hb]; · iexact Hb
  iintro %_ ⟨-, Hb⟩
  ihave Hb := (has_lent c tb w') $$ Hb
  iapply (seq (put_tb (g v')))
  isplitl [Hb]; · iexact Hb
  iintro %_ Hb
  iapply (last (copy_out (D := D) (K := K) tb (outT (adv c d (1 + s.val)) (col d p)) 1 fullShare (g v') n))
  isplitl [Hb Hout H1 HO]
  · isplitr; · iexact HR
    isplitl [Hb]; · iexact Hb
    isplitl [Hout]; · iexact Hout
    isplitl [H1] <;> iassumption
  iintro %_ ⟨Hout, Hb, H1, HO⟩
  isplitr [HQ Hout]
  · isplitl [Ha]; · iexact Ha
    isplitl [Hb]; · iapply (has_lent c tb _); iexact Hb
    isplitl [Hq]; · iapply (has_lent c tq _); iexact Hq
    isplitl [H0]; · iexact H0
    isplitl [H1] <;> iassumption
  isplitl [HQ] <;> iassumption

/-! ## The waits of the all-gather -/

theorem ag_below (d : Fin 2) (s : Fin 3) (n : ℕ) (h : 17 + 2 * s.val ≤ n) : ∀ t' : Tr, n ≤ t'.ord → (Tr.ag d s).lev < t'.lev := by
  have : ∀ (s : Fin 3) (t' : Tr), 17 + 2 * s.val ≤ t'.ord → 8 + s.val < t'.lev := by decide
  exact fun t' h' => this s t' (h.trans h')

theorem gather_wait (c : Dev nD) (s : Fin 3) (d : Fin 2) (n : ℕ) (h : 17 + 2 * s.val ≤ n) :
    iprop(recs D K ∗ Snt c (.ag d s) ∗ Rk c (.ag d s) ∗ debt c n)
      ⊢ WP (F := F) c (gatherWait c s d) fun _ => iprop(has c (qH (adv c d (1 + s.val)) d) fullShare (glue fun p => qv D d p (adv c d (1 + s.val)))
          ∗ zero c (agS d s) ∗ zero c (agR d s) ∗ debt c n) := by
  unfold gatherWait
  rw [qHalf_eq]
  iintro ⟨#HR, Hn, HK, HO⟩
  iapply (seq (wait_sent (D := D) (K := K) c (.ag d s) (qH (adv c d s.val) d) n rfl))
  isplitl [Hn HO]
  · isplitr; · iexact HR
    isplitl [Hn] <;> iassumption
  iintro %_ ⟨Hz, -, HO⟩
  iapply (last (wait_rcvd (D := D) (K := K) c (.ag d s) (qH (adv c d s.val) d) n rfl (ag_below d s n h)))
  isplitl [HK HO]
  · isplitr; · iexact HR
    isplitl [HK] <;> iassumption
  iintro %_ ⟨Hz', Hp, HO⟩
  unfold recvPay
  isplitl [Hp]; · iexact Hp
  isplitl [Hz]; · iexact Hz
  isplitl [Hz']; · iexact Hz'
  iexact HO

end Cert.KernelIdeal.Work

end
-- ==== Proof.Gemm.lean ====
/-
  A row of the product: four tiles multiplied out and copied into the product's array through the two
  staging tiles in turn.
-/
module

public import proofs.«01_k».proof.Proof.Hops

@[expose] public section

set_option maxRecDepth 16384

noncomputable section

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (D : Inp F) {K : Dev nD × Cl → ℕ}

/-- The staged operands. -/
abbrev stX : Tl .vmem S4096x1024 .bf16 := Tl.whole cc0_stg0_0
abbrev stW : Tl .vmem S1024x8192 .bf16 := Tl.whole cc0_stg1_0

theorem get_any_ta (c : Dev nD) : lent (F := F) c ta ⊢ WP c (getT (F := F) ta) fun _ => lent c ta := by
  iintro H
  ihave ⟨%w, H⟩ := (lent_has c ta) $$ H
  iapply (last (get_ta fullShare w))
  isplitl [H]; · iexact H
  iintro %_ ⟨-, H⟩
  iapply (has_lent c ta w); iexact H

theorem get_any_tb (c : Dev nD) : lent (F := F) c tb ⊢ WP c (getT (F := F) tb) fun _ => lent c tb := by
  iintro H
  ihave ⟨%w, H⟩ := (lent_has c tb) $$ H
  iapply (last (get_tb fullShare w))
  isplitl [H]; · iexact H
  iintro %_ ⟨-, H⟩
  iapply (has_lent c tb w); iexact H

theorem load_x (c : Dev nD) (r : Fin 4) :
    has c stX fullShare (D.x c) ⊢ WP (F := F) c (Prog.lift (.load stX.m (xrowR r).toLoadRect (View.loadsAt_vmem h_S1024x1024))) fun a => iprop(⌜a = xrow (D.x c) r⌝ ∗ has c stX fullShare (D.x c)) := by
  rw [has, owns_whole]
  iintro H
  iapply (wp_load 𝒱₀ (c : Thread nD τ) none Set.univ (m := stX.m) (Finset.subset_univ _)) $$ H
  iintro H
  iapply (le_wp_ret _ _ _ _ _)
  isplitr; · ipureintro; rfl
  iexact H

theorem load_w (c : Dev nD) (k : Fin 4) :
    has c stW fullShare (D.w c) ⊢ WP (F := F) c (Prog.lift (.load stW.m (wcolR k).toLoadRect (View.loadsAt_vmem h_S1024x2048))) fun a => iprop(⌜a = wcol (D.w c) k⌝ ∗ has c stW fullShare (D.w c)) := by
  rw [has, owns_whole]
  iintro H
  iapply (wp_load 𝒱₀ (c : Thread nD τ) none Set.univ (m := stW.m) (Finset.subset_univ _)) $$ H
  iintro H
  iapply (le_wp_ret _ _ _ _ _)
  isplitr; · ipureintro; rfl
  iexact H

theorem read_xw (c : Dev nD) (r k : Fin 4) (t : Tl .vmem S1024x2048 .bf16) (hg : lent (F := F) c t ⊢ WP c (getT (F := F) t) fun _ => lent c t) :
    iprop(has c stX fullShare (D.x c) ∗ has c stW fullShare (D.w c) ∗ lent c t)
      ⊢ WP (F := F) c (readXW stX.m stW.m r k t) fun a => iprop(⌜a = mm D c r k⌝ ∗ has c stX fullShare (D.x c) ∗ has c stW fullShare (D.w c) ∗ lent c t) := by
  iintro ⟨HX, HW, Ht⟩
  iapply (seq (load_x D c r))
  isplitl [HX]; · iexact HX
  iintro %x ⟨%ex, HX⟩
  iapply (seq (load_w D c k))
  isplitl [HW]; · iexact HW
  iintro %w ⟨%ew, HW⟩
  iapply (seq hg)
  isplitl [Ht]; · iexact Ht
  iintro %_ Ht
  iapply (done _ _)
  isplitr; · ipureintro; rw [ex, ew]; rfl
  isplitl [HX]; · iexact HX
  isplitl [HW] <;> iassumption

/-- A tile of the product's array, lent, and written. -/
abbrev accL (c r k : Fin 4) : sProp 𝕄 := lent c (accT r k)
abbrev accH (c r k : Fin 4) : sProp 𝕄 := has c (accT r k) fullShare (mm D c r k)

theorem gemm_row (c r : Fin 4) (n : ℕ) :
    iprop(recs D K ∗ sh c n ∗ has c stX fullShare (D.x c) ∗ has c stW fullShare (D.w c) ∗ accL c r 0 ∗ accL c r 1 ∗ accL c r 2 ∗ accL c r 3)
      ⊢ WP (F := F) c (gemmRow stX.m stW.m r) fun _ => iprop(sh c n ∗ has c stX fullShare (D.x c) ∗ has c stW fullShare (D.w c) ∗ accH D c r 0 ∗ accH D c r 1 ∗ accH D c r 2 ∗ accH D c r 3) := by
  unfold gemmRow sh
  iintro ⟨#HR, ⟨Ha, Hb, Hq, H0, H1, HO⟩, HX, HW, HA0, HA1, HA2, HA3⟩
  iapply (seq (read_xw D c r 0 ta (get_any_ta c)))
  isplitl [HX HW Ha]
  · isplitl [HX]; · iexact HX
    isplitl [HW] <;> iassumption
  iintro %v0 ⟨%e0, HX, HW, Ha⟩
  subst e0
  iapply (seq (put_ta (mm D c r 0)))
  isplitl [Ha]; · iexact Ha
  iintro %_ Ha
  iapply (seq (start_out ta (accT r 0) 0 fullShare (mm D c r 0)))
  isplitl [Ha HA0 H0]
  · isplitl [Ha]; · iexact Ha
    isplitl [HA0] <;> iassumption
  iintro %_ HF0
  iapply (seq (read_xw D c r 1 tb (get_any_tb c)))
  isplitl [HX HW Hb]
  · isplitl [HX]; · iexact HX
    isplitl [HW] <;> iassumption
  iintro %v1 ⟨%e1, HX, HW, Hb⟩
  subst e1
  iapply (seq (put_tb (mm D c r 1)))
  isplitl [Hb]; · iexact Hb
  iintro %_ Hb
  iapply (seq (start_out tb (accT r 1) 1 fullShare (mm D c r 1)))
  isplitl [Hb HA1 H1]
  · isplitl [Hb]; · iexact Hb
    isplitl [HA1] <;> iassumption
  iintro %_ HF1
  iapply (seq (wait_here (D := D) (K := K) ta (accT r 0) 0 fullShare (mm D c r 0) n))
  isplitl [HF0 HO]
  · isplitr; · iexact HR
    isplitl [HF0] <;> iassumption
  iintro %_ ⟨HA0, Ha, H0, HO⟩
  ihave Ha := (has_lent c ta (mm D c r 0)) $$ Ha
  iapply (seq (read_xw D c r 2 ta (get_any_ta c)))
  isplitl [HX HW Ha]
  · isplitl [HX]; · iexact HX
    isplitl [HW] <;> iassumption
  iintro %v2 ⟨%e2, HX, HW, Ha⟩
  subst e2
  iapply (seq (put_ta (mm D c r 2)))
  isplitl [Ha]; · iexact Ha
  iintro %_ Ha
  iapply (seq (start_out ta (accT r 2) 0 fullShare (mm D c r 2)))
  isplitl [Ha HA2 H0]
  · isplitl [Ha]; · iexact Ha
    isplitl [HA2] <;> iassumption
  iintro %_ HF2
  iapply (seq (wait_here (D := D) (K := K) tb (accT r 1) 1 fullShare (mm D c r 1) n))
  isplitl [HF1 HO]
  · isplitr; · iexact HR
    isplitl [HF1] <;> iassumption
  iintro %_ ⟨HA1, Hb, H1, HO⟩
  ihave Hb := (has_lent c tb (mm D c r 1)) $$ Hb
  iapply (seq (read_xw D c r 3 tb (get_any_tb c)))
  isplitl [HX HW Hb]
  · isplitl [HX]; · iexact HX
    isplitl [HW] <;> iassumption
  iintro %v3 ⟨%e3, HX, HW, Hb⟩
  subst e3
  iapply (seq (put_tb (mm D c r 3)))
  isplitl [Hb]; · iexact Hb
  iintro %_ Hb
  iapply (seq (start_out tb (accT r 3) 1 fullShare (mm D c r 3)))
  isplitl [Hb HA3 H1]
  · isplitl [Hb]; · iexact Hb
    isplitl [HA3] <;> iassumption
  iintro %_ HF3
  iapply (seq (wait_here (D := D) (K := K) ta (accT r 2) 0 fullShare (mm D c r 2) n))
  isplitl [HF2 HO]
  · isplitr; · iexact HR
    isplitl [HF2] <;> iassumption
  iintro %_ ⟨HA2, Ha, H0, HO⟩
  ihave Ha := (has_lent c ta (mm D c r 2)) $$ Ha
  iapply (last (wait_here (D := D) (K := K) tb (accT r 3) 1 fullShare (mm D c r 3) n))
  isplitl [HF3 HO]
  · isplitr; · iexact HR
    isplitl [HF3] <;> iassumption
  iintro %_ ⟨HA3, Hb, H1, HO⟩
  isplitr [HX HW HA0 HA1 HA2 HA3]
  · isplitl [Ha]; · iexact Ha
    isplitl [Hb]; · iapply (has_lent c tb (mm D c r 3)); iexact Hb
    isplitl [Hq]; · iexact Hq
    isplitl [H0]; · iexact H0
    isplitl [H1] <;> iassumption
  isplitl [HX]; · iexact HX
  isplitl [HW]; · iexact HW
  isplitl [HA0]; · iexact HA0
  isplitl [HA1]; · iexact HA1
  isplitl [HA2] <;> iassumption

end Cert.KernelIdeal.Work

end
-- ==== Proof.Scatter.lean ====
/-
  The kernel's phases: the product, the reduce-scatter, the ring of maxima, the quantising of the own
  rows and the all-gather, each with what it needs and what it leaves.
-/
module

public import proofs.«01_k».proof.Proof.Gemm

@[expose] public section

set_option maxRecDepth 16384

noncomputable section

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (D : Inp F) {K : Dev nD × Cl → ℕ}

/-! ## Both halves in both directions -/

/-- One thing for either half in either direction, in the order the kernel takes them. -/
def lanes (P : Fin 2 → Fin 2 → sProp 𝕄) : sProp 𝕄 := iprop(P 0 0 ∗ P 1 0 ∗ P 0 1 ∗ P 1 1)

omit [FloatOps F] in
theorem lanes_join (P Q : Fin 2 → Fin 2 → sProp 𝕄) : iprop(lanes P ∗ lanes Q) ⊢ lanes fun d p => iprop(P d p ∗ Q d p) := by
  unfold lanes
  iintro ⟨⟨A, B, C, E⟩, A', B', C', E'⟩
  isplitl [A A']; · isplitl [A] <;> iassumption
  isplitl [B B']; · isplitl [B] <;> iassumption
  isplitl [C C']; · isplitl [C] <;> iassumption
  isplitl [E] <;> iassumption

omit [FloatOps F] in
theorem lanes_split (P Q : Fin 2 → Fin 2 → sProp 𝕄) : lanes (fun d p => iprop(P d p ∗ Q d p)) ⊢ iprop(lanes P ∗ lanes Q) := by
  unfold lanes
  iintro ⟨⟨A, A'⟩, ⟨B, B'⟩, ⟨C, C'⟩, E, E'⟩
  isplitl [A B C E]
  · isplitl [A]; · iexact A
    isplitl [B]; · iexact B
    isplitl [C] <;> iassumption
  · isplitl [A']; · iexact A'
    isplitl [B']; · iexact B'
    isplitl [C'] <;> iassumption

theorem four_spec {c : Dev nD} {f : Fin 2 → Fin 2 → TcProg F PUnit} (S : ℕ → sProp 𝕄) {P Q : Fin 2 → Fin 2 → sProp 𝕄}
    (h : ∀ d p : Fin 2, iprop(recs D K ∗ S (2 * p.val + d.val) ∗ P d p) ⊢ WP c (f d p) fun _ => iprop(S (2 * p.val + d.val + 1) ∗ Q d p)) :
    iprop(recs D K ∗ S 0 ∗ lanes P) ⊢ WP c (four f) fun _ => iprop(S 4 ∗ lanes Q) := by
  unfold lanes four
  iintro ⟨#HR, HS, P0, P1, P2, P3⟩
  iapply (seq (h 0 0))
  isplitl [HS P0]
  · isplitr; · iexact HR
    isplitl [HS]; · iexact HS
    iexact P0
  iintro %_ ⟨HS, Q0⟩
  iapply (seq (h 1 0))
  isplitl [HS P1]
  · isplitr; · iexact HR
    isplitl [HS]; · iexact HS
    iexact P1
  iintro %_ ⟨HS, Q1⟩
  iapply (seq (h 0 1))
  isplitl [HS P2]
  · isplitr; · iexact HR
    isplitl [HS]; · iexact HS
    iexact P2
  iintro %_ ⟨HS, Q2⟩
  iapply (last (h 1 1))
  isplitl [HS P3]
  · isplitr; · iexact HR
    isplitl [HS]; · iexact HS
    iexact P3
  iintro %_ ⟨HS, Q3⟩
  isplitl [HS]; · iexact HS
  isplitl [Q0]; · iexact Q0
  isplitl [Q1]; · iexact Q1
  isplitl [Q2] <;> iassumption

/-! ## The reduce-scatter -/

/-- Tile `a` steps back, of the product's array. -/
abbrev accAt (c : Dev nD) (a : ℕ) (d p : Fin 2) : sProp 𝕄 := accH D c (adv c d a) (col d p)

theorem first_sends (c : Dev nD) :
    iprop(recs D K ∗ sh c 0 ∗ lanes fun d p => iprop(accAt D c 1 d p ∗ Sk c (.rs d p 0)))
      ⊢ WP (F := F) c (four (sendFirst c)) fun _ => iprop(sh c 4 ∗ lanes fun d p => Snt c (.rs d p 0)) := by
  refine four_spec D (fun k => sh c k) fun d p => ?_
  unfold sendFirst sh
  rw [accFirst_eq]
  iintro ⟨#HR, ⟨Ha, Hb, Hq, H0, H1, HO⟩, HA, Hk⟩
  iapply (last (send_rs (D := D) (K := K) c d p 0 (accT (adv c d 1) (col d p)) (2 * p.val + d.val) (by show 4 * 0 + 2 * p.val + d.val = _; omega)))
  isplitl [HA Hk HO]
  · isplitr; · iexact HR
    isplitl [Hk]; · iexact Hk
    isplitl [HA]; · iexact HA
    iexact HO
  iintro %_ ⟨Hn, HO⟩
  isplitr [Hn]
  · isplitl [Ha]; · iexact Ha
    isplitl [Hb]; · iexact Hb
    isplitl [Hq]; · iexact Hq
    isplitl [H0]; · iexact H0
    isplitl [H1] <;> iassumption
  iexact Hn

theorem mid_hops (c : Dev nD) (s s' : Fin 3) (hs : s'.val = s.val + 1) :
    iprop(recs D K ∗ sh c (4 * s'.val) ∗ lanes fun d p => iprop(accAt D c (2 + s.val) d p ∗ Rk c (.rs d p s) ∗ Sk c (.rs d p s')))
      ⊢ WP (F := F) c (four fun d p => hopMid c d p s s') fun _ => iprop(sh c (4 * s'.val + 4) ∗ lanes fun d p => iprop(Snt c (.rs d p s') ∗ zero c (rsR d s p))) := by
  refine four_spec D (fun k => sh c (4 * s'.val + k)) fun d p => ?_
  exact hop_mid (D := D) (K := K) c d p s s' (4 * s'.val + (2 * p.val + d.val)) hs (by show 4 * s'.val + 2 * p.val + d.val = _; omega)

theorem sent_waits (c : Dev nD) (s : Fin 3) (n : ℕ) :
    iprop(recs D K ∗ debt c n ∗ lanes fun d p => Snt c (.rs d p s))
      ⊢ WP (F := F) c (four (sentWait c s)) fun _ => iprop(debt c n ∗ lanes fun d p => zero c (rsS d s p)) := by
  refine four_spec D (fun _ => debt c n) fun d p => ?_
  iintro ⟨#HR, HO, Hn⟩
  iapply (last (sent_wait (D := D) (K := K) c s d p n))
  isplitl [HO Hn]
  · isplitr; · iexact HR
    isplitl [Hn] <;> iassumption
  iintro %_ ⟨Hz, HO⟩
  isplitl [HO] <;> iassumption

theorem st0 (a b : Vec F S1024x2048 .bf16) : k0_pay32 (k0_pay31 a b) = k0_pay35 a b := rfl
theorem st2 (a b : Vec F S1024x2048 .bf16) : k0_pay38 (k0_pay36 a b) = k0_pay35 a b := rfl
theorem st3 (a b : Vec F S1024x2048 .bf16) : k0_pay41 a b = k0_pay35 a b := rfl

/-- What a last hop needs, -/
abbrev lastIn (c : Dev nD) (d p : Fin 2) : sProp 𝕄 := iprop(accAt D c 4 d p ∗ Rk c (.rs d p 2))
/-- and what it leaves. -/
abbrev lastOut (c : Dev nD) (d p : Fin 2) : sProp 𝕄 := iprop(has c (slot d 2 p) fullShare (fin D d p c) ∗ zero c (rsR d 2 p))

theorem last_one (c : Dev nD) (d p : Fin 2) (g : Vec F S1024x2048 .bf16 → Vec F S1024x2048 .bf16 → F .f32)
    (st : Vec F S1024x2048 .bf16 → Vec F S1024x2048 .bf16 → FVec F S1024x2048 .bf16) (hst : ∀ a b, st a b = k0_pay35 a b) :
    iprop(recs D K ∗ sh c 12 ∗ lastIn D c d p)
      ⊢ WP (F := F) c (hopLast c d p g st) fun r => iprop(⌜r = g (rv D d p 2 c) (own D d p c)⌝ ∗ sh c 12 ∗ lastOut D c d p) := by
  have h := hop_last (D := D) (K := K) c d p g st 12 le_rfl
  rw [hst] at h
  iintro ⟨#HR, HS, HA, HK⟩
  iapply (last h)
  isplitl [HS HA HK]
  · isplitr; · iexact HR
    isplitl [HS]; · iexact HS
    isplitl [HA] <;> iassumption
  iintro %r ⟨%e, HS, Hs, Hz⟩
  isplitr; · ipureintro; exact e
  isplitl [HS]; · iexact HS
  isplitl [Hs]; · iexact Hs
  iexact Hz

/-- What the reduce-scatter needs, -/
def scatterIn (c : Dev nD) : sProp 𝕄 :=
  iprop((lanes fun d p => iprop(accAt D c 1 d p ∗ Sk c (.rs d p 0))) ∗ (lanes fun d p => iprop(accAt D c (2 + (0 : Fin 3).val) d p ∗ Rk c (.rs d p 0) ∗ Sk c (.rs d p 1)))
    ∗ (lanes fun d p => iprop(accAt D c (2 + (1 : Fin 3).val) d p ∗ Rk c (.rs d p 1) ∗ Sk c (.rs d p 2))) ∗ lanes (lastIn D c))

/-- and what it leaves. -/
def scatterOut (c : Dev nD) : sProp 𝕄 :=
  iprop((lanes fun d p => zero c (rsS d 0 p)) ∗ (lanes fun d p => zero c (rsS d 1 p)) ∗ (lanes fun d p => zero c (rsS d 2 p))
    ∗ (lanes fun d p => zero c (rsR d 0 p)) ∗ (lanes fun d p => zero c (rsR d 1 p)) ∗ lanes (lastOut D c))

theorem scatter_spec (c : Dev nD) :
    iprop(recs D K ∗ sh c 0 ∗ scatterIn D c) ⊢ WP (F := F) c (scatter c) fun v => iprop(⌜v = mx D c⌝ ∗ sh c 12 ∗ scatterOut D c) := by
  unfold scatter scatterIn scatterOut
  iintro ⟨#HR, HS, I0, I1, I2, I3⟩
  iapply (seq (first_sends D (K := K) c))
  isplitl [HS I0]
  · isplitr; · iexact HR
    isplitl [HS] <;> iassumption
  iintro %_ ⟨HS, N0⟩
  iapply (seq (mid_hops D (K := K) c 0 1 rfl))
  isplitl [HS I1]
  · isplitr; · iexact HR
    isplitl [HS]; · iexact HS
    iexact I1
  iintro %_ ⟨HS, O1⟩
  ihave ⟨N1, Z0⟩ := (lanes_split (fun d p => Snt c (.rs d p 1)) (fun d p => zero c (rsR d 0 p))) $$ O1
  iapply (seq (mid_hops D (K := K) c 1 2 rfl))
  isplitl [HS I2]
  · isplitr; · iexact HR
    isplitl [HS]; · iexact HS
    iexact I2
  iintro %_ ⟨HS, O2⟩
  ihave ⟨N2, Z1⟩ := (lanes_split (fun d p => Snt c (.rs d p 2)) (fun d p => zero c (rsR d 1 p))) $$ O2
  ihave I3 := (Entails.of_eq (show lanes (lastIn D c) = iprop(lastIn D c 0 0 ∗ lastIn D c 1 0 ∗ lastIn D c 0 1 ∗ lastIn D c 1 1) from rfl)) $$ I3
  icases I3 with ⟨L0, L1, L2, L3⟩
  iapply (seq (last_one D (K := K) c 0 0 _ _ st0))
  isplitl [HS L0]
  · isplitr; · iexact HR
    isplitl [HS]; · iexact HS
    iexact L0
  iintro %m0 ⟨%e0, HS, M0⟩
  iapply (seq (last_one D (K := K) c 1 0 _ _ fun _ _ => rfl))
  isplitl [HS L1]
  · isplitr; · iexact HR
    isplitl [HS]; · iexact HS
    iexact L1
  iintro %m1 ⟨%e1, HS, M1⟩
  iapply (seq (last_one D (K := K) c 0 1 _ _ st2))
  isplitl [HS L2]
  · isplitr; · iexact HR
    isplitl [HS]; · iexact HS
    iexact L2
  iintro %m2 ⟨%e2, HS, M2⟩
  iapply (seq (last_one D (K := K) c 1 1 _ _ st3))
  isplitl [HS L3]
  · isplitr; · iexact HR
    isplitl [HS]; · iexact HS
    iexact L3
  iintro %m3 ⟨%e3, HS, M3⟩
  unfold sh
  icases HS with ⟨Ha, Hb, Hq, H0, H1, HO⟩
  iapply (seq (sent_waits D (K := K) c 0 12))
  isplitl [HO N0]
  · isplitr; · iexact HR
    isplitl [HO] <;> iassumption
  iintro %_ ⟨HO, S0⟩
  iapply (seq (sent_waits D (K := K) c 1 12))
  isplitl [HO N1]
  · isplitr; · iexact HR
    isplitl [HO] <;> iassumption
  iintro %_ ⟨HO, S1⟩
  iapply (seq (sent_waits D (K := K) c 2 12))
  isplitl [HO N2]
  · isplitr; · iexact HR
    isplitl [HO] <;> iassumption
  iintro %_ ⟨HO, S2⟩
  iapply (done _ _)
  isplitr
  · ipureintro; unfold mx; rw [e3, e2, e1, e0]
  isplitl [Ha Hb Hq H0 H1 HO]
  · isplitl [Ha]; · iexact Ha
    isplitl [Hb]; · iexact Hb
    isplitl [Hq]; · iexact Hq
    isplitl [H0]; · iexact H0
    isplitl [H1] <;> iassumption
  isplitl [S0]; · iexact S0
  isplitl [S1]; · iexact S1
  isplitl [S2]; · iexact S2
  isplitl [Z0]; · iexact Z0
  isplitl [Z1]; · iexact Z1
  unfold lanes
  isplitl [M0]; · iexact M0
  isplitl [M1]; · iexact M1
  isplitl [M2] <;> iassumption

end Cert.KernelIdeal.Work

end
-- ==== Proof.Gather.lean ====
/-
  The kernel's later phases: the ring of maxima, the quantising of the own rows and the all-gather.
-/
module

public import proofs.«01_k».proof.Proof.Scatter
public import Idealize.ShloMosaic.Lib.StableHlo.CollectiveRules

@[expose] public section

set_option maxRecDepth 16384

noncomputable section

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (D : Inp F) {K : Dev nD × Cl → ℕ}

/-! ## The ring of maxima -/

/-- Row `s` of the received maxima. -/
abbrev rowM (s : Fin 4) : Memref sig .tc .vmem S1x128 .f32 := (Memref.whole cc0_scratch4).slice (rowR s) (fun _ => rfl)

/-- The last row, which nothing is received in. -/
def zrow (c : Dev nD) : sProp 𝕄 := owns (c : Thread nD τ) (rowM 3) fullShare fun j => k0_pay3 (F := F) ((rowR 3).emb j)

theorem rows_join (c : Dev nD) :
    iprop(has c (amRow 0) fullShare (amv D (adv c 0 (1 + (0 : Fin 3).val))) ∗ has c (amRow 1) fullShare (amv D (adv c 0 (1 + (1 : Fin 3).val)))
        ∗ has c (amRow 2) fullShare (amv D (adv c 0 (1 + (2 : Fin 3).val))) ∗ zrow c)
      ⊢ (has c (Tl.whole cc0_scratch4) fullShare (rows D c) : sProp 𝕄) := by
  have h : (BI.bigSep Finset.univ fun s => owns (c : Thread nD τ) (rowM s) fullShare (fun j => rows D c ((rowR s).emb j)) : sProp 𝕄) ⊢ has c (Tl.whole cc0_scratch4) fullShare (rows D c) :=
    owns_of_rects (c : Thread nD τ) (Memref.whole cc0_scratch4) fullShare rowR (fun _ _ => rfl) rowR_disj rowR_cover (rows D c)
  have e : (fun s => owns (c : Thread nD τ) (rowM s) fullShare (fun j => rows D c ((rowR s).emb j)) : Fin 4 → sProp 𝕄)
      = fun s => owns (c : Thread nD τ) (rowM s) fullShare (if s.val = 3 then (fun j => k0_pay3 (F := F) ((rowR s).emb j)) else amv D (adv c 0 (1 + s.val))) :=
    funext fun s => congrArg (owns (c : Thread nD τ) (rowM s) fullShare) (rows_tile D c s)
  rw [e, bigSep_univ_eq_bigSepL [0, 1, 2, 3] (by decide) (by decide)] at h
  exact h

theorem load_rows (c : Dev nD) (v : S4x128.Idx → Elt F .f32) :
    has c (Tl.whole cc0_scratch4) fullShare v
      ⊢ WP (F := F) c (Prog.lift (.load (Memref.whole cc0_scratch4) (Rect.unit (s := S4x128) ![0, 0] S4x128.size inb_S4x128_S4x128_0_0).toLoadRect (View.loadsAt_vmem h_S4x128))) fun a => iprop(⌜a = v⌝ ∗ has c (Tl.whole cc0_scratch4) fullShare v) := by
  rw [has, owns_whole]
  iintro H
  iapply (wp_load 𝒱₀ (c : Thread nD τ) none Set.univ (m := Memref.whole cc0_scratch4) (Finset.subset_univ _)) $$ H
  iintro H
  iapply (le_wp_ret _ _ _ _ _)
  isplitr
  · ipureintro; exact Memref.readAt_unit_zero (Elt F) cc0_scratch4 hz _ v
  iexact H

theorem load_src (c : Dev nD) (v : S1x128.Idx → Elt F .f32) :
    has c amSrc fullShare v
      ⊢ WP (F := F) c (Prog.lift (.load amSrc.m (Rect.unit (s := S1x128) ![0, 0] S1x128.size inb_S1x128_S1x128_0_0).toLoadRect (View.loadsAt_vmem h_S1x128))) fun a => has c amSrc fullShare v := by
  rw [has, owns_whole]
  iintro H
  iapply (wp_load 𝒱₀ (c : Thread nD τ) none Set.univ (m := amSrc.m) (Finset.subset_univ _)) $$ H
  iintro H
  iapply (le_wp_ret _ _ _ _ _)
  iexact H

theorem store_src (c : Dev nD) (v : FVec F S1x128 .f32) :
    lent c amSrc
      ⊢ WP (F := F) c (Prog.lift (.store amSrc.m (Rect.unit (s := S1x128) ![0, 0] S1x128.size inb_S1x128_S1x128_0_0) v Finset.univ (View.stores_vmem_bits_univ h_S1x128 rfl) (.inl rfl))) fun _ => has c amSrc fullShare v := by
  rw [lent_whole, has, owns_whole]
  iintro ⟨%f, H⟩
  iapply (wp_store 𝒱₀ (c : Thread nD τ) none Set.univ (m := amSrc.m) (r := Rect.unit (s := S1x128) ![0, 0] S1x128.size inb_S1x128_S1x128_0_0) (Mk := Finset.univ) (Finset.subset_univ _)) $$ H
  iintro H
  iapply (le_wp_ret _ _ _ _ _)
  rw [show View.write (Elt F) (amSrc.m.access (Rect.unit (s := S1x128) ![0, 0] S1x128.size inb_S1x128_S1x128_0_0)) f v Finset.univ = v from Memref.write_access_unit_zero_univ (Elt F) cc0_scratch3 hz _ f v]
  iexact H

/-- What the ring of maxima needs, -/
def maxIn (c : Dev nD) : sProp 𝕄 :=
  iprop(lent c amSrc ∗ zrow c ∗ (Sk c (.am 0) ∗ Rk c (.am 0)) ∗ (Sk c (.am 1) ∗ Rk c (.am 1)) ∗ Sk c (.am 2) ∗ Rk c (.am 2))

/-- and what it leaves. -/
def maxOut (c : Dev nD) : sProp 𝕄 :=
  iprop(lent c amSrc ∗ lent c (Tl.whole cc0_scratch4) ∗ (zero c (amS 0) ∗ zero c (amR 0)) ∗ (zero c (amS 1) ∗ zero c (amR 1)) ∗ zero c (amS 2) ∗ zero c (amR 2))

theorem max_ring (c : Dev nD) :
    iprop(recs D K ∗ debt c 12 ∗ maxIn c) ⊢ WP (F := F) c (maxRing c (mx D c)) fun rs => iprop(⌜rs = rows D c⌝ ∗ debt c 15 ∗ maxOut c) := by
  unfold maxRing maxIn maxOut
  iintro ⟨#HR, HO, Hs, Hz, ⟨S0, R0⟩, ⟨S1, R1⟩, S2, R2⟩
  ihave ⟨%w, Hs⟩ := (lent_has c amSrc) $$ Hs
  iapply (seq (load_src c w))
  isplitl [Hs]; · iexact Hs
  iintro %_ Hs
  ihave Hs := (has_lent c amSrc w) $$ Hs
  iapply (seq (store_src c (k0_pay42 (mx D c))))
  isplitl [Hs]; · iexact Hs
  iintro %_ Hs
  iapply (seq (max_step (D := D) (K := K) c 0))
  isplitl [S0 R0 Hs HO]
  · isplitr; · iexact HR
    isplitl [S0]; · iexact S0
    isplitl [R0]; · iexact R0
    isplitl [Hs]
    · rw [show adv c 0 (0 : Fin 3).val = c from adv_zero c 0]; iexact Hs
    iexact HO
  iintro %_ ⟨Hs, A0, Z0, Z0', HO⟩
  iapply (seq (max_step (D := D) (K := K) c 1))
  isplitl [S1 R1 A0 HO]
  · isplitr; · iexact HR
    isplitl [S1]; · iexact S1
    isplitl [R1]; · iexact R1
    isplitl [A0]; · iexact A0
    iexact HO
  iintro %_ ⟨A0, A1, Z1, Z1', HO⟩
  iapply (seq (max_step (D := D) (K := K) c 2))
  isplitl [S2 R2 A1 HO]
  · isplitr; · iexact HR
    isplitl [S2]; · iexact S2
    isplitl [R2]; · iexact R2
    isplitl [A1]; · iexact A1
    iexact HO
  iintro %_ ⟨A1, A2, Z2, Z2', HO⟩
  ihave Hw := (rows_join D c) $$ [A0 A1 A2 Hz]
  · isplitl [A0]; · iexact A0
    isplitl [A1]; · iexact A1
    isplitl [A2]; · iexact A2
    iexact Hz
  iapply (last (load_rows c (rows D c)))
  isplitl [Hw]; · iexact Hw
  iintro %rs ⟨%e, Hw⟩
  isplitr; · ipureintro; exact e
  isplitl [HO]; · iexact HO
  isplitl [Hs]; · iapply (has_lent c amSrc _); iexact Hs
  isplitl [Hw]; · iapply (has_lent c (Tl.whole cc0_scratch4) _); iexact Hw
  isplitl [Z0 Z0']
  · isplitl [Z0] <;> iassumption
  isplitl [Z1 Z1']
  · isplitl [Z1] <;> iassumption
  isplitl [Z2] <;> iassumption

/-! ## The all-gather -/

/-- A tile of the result, lent, and written. -/
abbrev outL (c r k : Fin 4) : sProp 𝕄 := lent c (outT r k)
abbrev outH (c r k : Fin 4) : sProp 𝕄 := has c (outT r k) fullShare (outv D c r k)

theorem dequant_row (c : Dev nD) (g₀ g₁ : Vec F S1024x2048 .i8 → Vec F S1024x2048 .bf16) (hg₀ : ∀ q, g₀ q = k0_pay59 (scale D c) q) (hg₁ : ∀ q, g₁ q = k0_pay59 (scale D c) q)
    (s : Fin 3) (d : Fin 2) (q : PosShare TreeShare) (n : ℕ) :
    iprop(recs D K ∗ sh c n ∗ has c (qH (adv c d (1 + s.val)) d) q (glue fun p => qv D d p (adv c d (1 + s.val))) ∗ outL c (adv c d (1 + s.val)) (col d 0) ∗ outL c (adv c d (1 + s.val)) (col d 1))
      ⊢ WP (F := F) c (dequantRow c g₀ g₁ s d) fun _ => iprop(sh c n ∗ outH D c (adv c d (1 + s.val)) (col d 0) ∗ outH D c (adv c d (1 + s.val)) (col d 1)) := by
  have h₀ := dequant_spec (D := D) (K := K) c g₀ s d 0 q (qv D d 0 (adv c d (1 + s.val))) n
  have h₁ := dequant_spec (D := D) (K := K) c g₁ s d 1 q (qv D d 1 (adv c d (1 + s.val))) n
  rw [hg₀] at h₀
  rw [hg₁] at h₁
  unfold dequantRow outH
  rw [outv_got, outv_got]
  iintro ⟨#HR, HS, HQ, L0, L1⟩
  ihave ⟨Q0, Q1⟩ := (half_split c (adv c d (1 + s.val)) d q (fun p => qv D d p (adv c d (1 + s.val)))) $$ HQ
  iapply (seq h₀)
  isplitl [HS Q0 L0]
  · isplitr; · iexact HR
    isplitl [HS]; · iexact HS
    isplitl [Q0] <;> iassumption
  iintro %_ ⟨HS, -, L0⟩
  iapply (last h₁)
  isplitl [HS Q1 L1]
  · isplitr; · iexact HR
    isplitl [HS]; · iexact HS
    isplitl [Q1] <;> iassumption
  iintro %_ ⟨HS, -, L1⟩
  isplitl [HS]; · iexact HS
  isplitl [L0]; · iexact L0
  iexact L1

/-- The half row direction `d` sends in round `s`. -/
abbrev halfAt (c : Dev nD) (d : Fin 2) (a : ℕ) (q : PosShare TreeShare) : sProp 𝕄 := has c (qH (adv c d a) d) q (glue fun p => qv D d p (adv c d a))

theorem half_share (c : Dev nD) (d : Fin 2) (a : ℕ) : halfAt D c d a fullShare ⊢ iprop(halfAt D c d a fullShare.left ∗ halfAt D c d a fullShare.right) :=
  (owns_share (c : Thread nD τ) (qH (adv c d a) d).m (PosShare.mem_left_op_right fullShare) _).1

/-- The sends of a round, both directions. -/
theorem gather_sends (c : Dev nD) (s : Fin 3) (q : PosShare TreeShare) {β : Type} {k : TcProg F β} {Φ : β → sProp 𝕄} :
    iprop(recs D K ∗ sh c (15 + 2 * s.val) ∗ (Sk c (.ag 0 s) ∗ Sk c (.ag 1 s)) ∗ (halfAt D c 0 s.val q ∗ halfAt D c 1 s.val q)
      ∗ (iprop(sh c (17 + 2 * s.val) ∗ (Snt c (.ag 0 s) ∗ Snt c (.ag 1 s))) -∗ WP c k Φ))
      ⊢ WP (F := F) c (do gatherSend c s 0; gatherSend c s 1; k) Φ := by
  rw [show sh (F := F) c (15 + 2 * s.val) = iprop(lent c ta ∗ lent c tb ∗ lent c tq ∗ zero c (lsem 0) ∗ zero c (lsem 1) ∗ debt c (15 + 2 * s.val)) from rfl]
  iintro ⟨#HR, ⟨Ha, Hb, Hq, H0, H1, HO⟩, ⟨S0, S1⟩, ⟨Q0, Q1⟩, Hk⟩
  iapply (seq (send_ag (D := D) (K := K) c 0 s q (15 + 2 * s.val) rfl))
  isplitl [S0 Q0 HO]
  · isplitr; · iexact HR
    isplitl [S0]; · iexact S0
    isplitl [Q0] <;> iassumption
  iintro %_ ⟨N0, HO⟩
  iapply (seq (send_ag (D := D) (K := K) c 1 s q (15 + 2 * s.val + 1) rfl))
  isplitl [S1 Q1 HO]
  · isplitr; · iexact HR
    isplitl [S1]; · iexact S1
    isplitl [Q1] <;> iassumption
  iintro %_ ⟨N1, HO⟩
  iapply Hk
  isplitr [N0 N1]
  · unfold sh
    isplitl [Ha]; · iexact Ha
    isplitl [Hb]; · iexact Hb
    isplitl [Hq]; · iexact Hq
    isplitl [H0]; · iexact H0
    isplitl [H1]; · iexact H1
    rw [show 15 + 2 * s.val + 1 + 1 = 17 + 2 * s.val by omega]; iexact HO
  isplitl [N0] <;> iassumption

/-- The waits of a round, both directions. -/
theorem gather_waits (c : Dev nD) (s : Fin 3) {β : Type} {k : TcProg F β} {Φ : β → sProp 𝕄} :
    iprop(recs D K ∗ sh c (17 + 2 * s.val) ∗ (Snt c (.ag 0 s) ∗ Snt c (.ag 1 s)) ∗ (Rk c (.ag 0 s) ∗ Rk c (.ag 1 s))
      ∗ (iprop(sh c (17 + 2 * s.val) ∗ (halfAt D c 0 (1 + s.val) fullShare ∗ halfAt D c 1 (1 + s.val) fullShare)
          ∗ (zero c (agS 0 s) ∗ zero c (agR 0 s)) ∗ zero c (agS 1 s) ∗ zero c (agR 1 s)) -∗ WP c k Φ))
      ⊢ WP (F := F) c (do gatherWait c s 0; gatherWait c s 1; k) Φ := by
  unfold sh
  iintro ⟨#HR, ⟨Ha, Hb, Hq, H0, H1, HO⟩, ⟨N0, N1⟩, ⟨R0, R1⟩, Hk⟩
  iapply (seq (gather_wait (D := D) (K := K) c s 0 (17 + 2 * s.val) le_rfl))
  isplitl [N0 R0 HO]
  · isplitr; · iexact HR
    isplitl [N0]; · iexact N0
    isplitl [R0] <;> iassumption
  iintro %_ ⟨Q0, Z0, Z0', HO⟩
  iapply (seq (gather_wait (D := D) (K := K) c s 1 (17 + 2 * s.val) le_rfl))
  isplitl [N1 R1 HO]
  · isplitr; · iexact HR
    isplitl [N1]; · iexact N1
    isplitl [R1] <;> iassumption
  iintro %_ ⟨Q1, Z1, Z1', HO⟩
  iapply Hk
  isplitl [Ha Hb Hq H0 H1 HO]
  · isplitl [Ha]; · iexact Ha
    isplitl [Hb]; · iexact Hb
    isplitl [Hq]; · iexact Hq
    isplitl [H0]; · iexact H0
    isplitl [H1] <;> iassumption
  isplitl [Q0 Q1]
  · isplitl [Q0] <;> iassumption
  isplitl [Z0 Z0']
  · isplitl [Z0] <;> iassumption
  isplitl [Z1] <;> iassumption

/-- The tiles of the result a round writes. -/
abbrev roundL (c : Dev nD) (a : ℕ) : sProp 𝕄 := lanes fun d p => outL c (adv c d a) (col d p)
abbrev roundH (c : Dev nD) (a : ℕ) : sProp 𝕄 := lanes fun d p => outH D c (adv c d a) (col d p)

/-- The dequantising of a round, both directions. -/
theorem dequant_round (c : Dev nD) (g₀ g₁ g₂ g₃ : Vec F S1024x2048 .i8 → Vec F S1024x2048 .bf16)
    (h₀ : ∀ q, g₀ q = k0_pay59 (scale D c) q) (h₁ : ∀ q, g₁ q = k0_pay59 (scale D c) q) (h₂ : ∀ q, g₂ q = k0_pay59 (scale D c) q) (h₃ : ∀ q, g₃ q = k0_pay59 (scale D c) q)
    (s : Fin 3) (q : PosShare TreeShare) (n : ℕ) :
    iprop(recs D K ∗ sh c n ∗ (halfAt D c 0 (1 + s.val) q ∗ halfAt D c 1 (1 + s.val) q) ∗ roundL c (1 + s.val))
      ⊢ WP (F := F) c (do dequantRow c g₀ g₁ s 0; dequantRow c g₂ g₃ s 1) fun _ => iprop(sh c n ∗ roundH D c (1 + s.val)) := by
  unfold roundL roundH lanes
  iintro ⟨#HR, HS, ⟨Q0, Q1⟩, L0, L1, L2, L3⟩
  iapply (seq (dequant_row D (K := K) c g₀ g₁ h₀ h₁ s 0 q n))
  isplitl [HS Q0 L0 L2]
  · isplitr; · iexact HR
    isplitl [HS]; · iexact HS
    isplitl [Q0]; · iexact Q0
    isplitl [L0] <;> iassumption
  iintro %_ ⟨HS, L0, L2⟩
  iapply (last (dequant_row D (K := K) c g₂ g₃ h₂ h₃ s 1 q n))
  isplitl [HS Q1 L1 L3]
  · isplitr; · iexact HR
    isplitl [HS]; · iexact HS
    isplitl [Q1]; · iexact Q1
    isplitl [L1] <;> iassumption
  iintro %_ ⟨HS, L1, L3⟩
  isplitl [HS]; · iexact HS
  isplitl [L0]; · iexact L0
  isplitl [L1]; · iexact L1
  isplitl [L2] <;> iassumption

/-- Sequencing after two steps. -/
theorem seq2 {c : Dev nD} {a b : TcProg F PUnit} {β : Type} {k : TcProg F β} {P : sProp 𝕄} {Q : PUnit → sProp 𝕄} {Φ : β → sProp 𝕄} (h : P ⊢ WP c (do a; b) Q) :
    iprop(P ∗ (∀ x, Q x -∗ WP c k Φ)) ⊢ WP c (do a; b; k) Φ := by
  have e : (do a; b; k : TcProg F β) = (do a; b : TcProg F PUnit) >>= fun _ => k := by
    exact (Prog.bind_assoc a (fun _ => b) (fun _ => k)).symm
  rw [e]
  exact seq h

/-- What the all-gather needs, -/
def gatherIn (c : Dev nD) : sProp 𝕄 :=
  iprop((halfAt D c 0 0 fullShare ∗ halfAt D c 1 0 fullShare)
    ∗ ((Sk c (.ag 0 0) ∗ Sk c (.ag 1 0)) ∗ (Rk c (.ag 0 0) ∗ Rk c (.ag 1 0)) ∗ roundL c 1)
    ∗ ((Sk c (.ag 0 1) ∗ Sk c (.ag 1 1)) ∗ (Rk c (.ag 0 1) ∗ Rk c (.ag 1 1)) ∗ roundL c 2)
    ∗ ((Sk c (.ag 0 2) ∗ Sk c (.ag 1 2)) ∗ (Rk c (.ag 0 2) ∗ Rk c (.ag 1 2)) ∗ roundL c 3))

/-- The counters of a round. -/
abbrev agZ (c : Dev nD) (s : Fin 3) : sProp 𝕄 := iprop((zero (F := F) c (agS 0 s) ∗ zero c (agR 0 s)) ∗ zero c (agS 1 s) ∗ zero c (agR 1 s))

/-- and what it leaves. -/
def gatherOut (c : Dev nD) : sProp 𝕄 := iprop((agZ c 0 ∗ roundH D c 1) ∗ (agZ c 1 ∗ roundH D c 2) ∗ agZ c 2 ∗ roundH D c 3)

theorem gather_spec (c : Dev nD) :
    iprop(recs D K ∗ sh c 15 ∗ gatherIn D c) ⊢ WP (F := F) c (gather c (scale D c)) fun _ => iprop(sh c 21 ∗ gatherOut D c) := by
  unfold gather gatherIn gatherOut
  iintro ⟨#HR, HS, Q, ⟨S0, R0, L0⟩, ⟨S1, R1, L1⟩, S2, R2, L2⟩
  iapply (gather_sends D (K := K) c 0 fullShare)
  isplitr; · iexact HR
  isplitl [HS]; · iexact HS
  isplitl [S0]; · iexact S0
  isplitl [Q]; · iexact Q
  iintro ⟨HS, N0⟩
  iapply (gather_waits D (K := K) c 0)
  isplitr; · iexact HR
  isplitl [HS]; · iexact HS
  isplitl [N0]; · iexact N0
  isplitl [R0]; · iexact R0
  iintro ⟨HS, ⟨Q0, Q1⟩, Z0⟩
  ihave ⟨Q0, Q0'⟩ := (half_share D c 0 1) $$ Q0
  ihave ⟨Q1, Q1'⟩ := (half_share D c 1 1) $$ Q1
  iapply (gather_sends D (K := K) c 1 fullShare.left)
  isplitr; · iexact HR
  isplitl [HS]; · iexact HS
  isplitl [S1]; · iexact S1
  isplitl [Q0 Q1]
  · isplitl [Q0]; · iexact Q0
    iexact Q1
  iintro ⟨HS, N1⟩
  iapply (seq2 (dequant_round D (K := K) c _ _ _ _ (fun _ => rfl) (fun _ => rfl) (fun _ => rfl) (fun _ => rfl) 0 fullShare.right (17 + 2 * (1 : Fin 3).val)))
  isplitl [HS Q0' Q1' L0]
  · isplitr; · iexact HR
    isplitl [HS]; · iexact HS
    isplitl [Q0' Q1']
    · isplitl [Q0']; · iexact Q0'
      iexact Q1'
    iexact L0
  iintro %_ ⟨HS, L0⟩
  iapply (gather_waits D (K := K) c 1)
  isplitr; · iexact HR
  isplitl [HS]; · iexact HS
  isplitl [N1]; · iexact N1
  isplitl [R1]; · iexact R1
  iintro ⟨HS, ⟨Q0, Q1⟩, Z1⟩
  ihave ⟨Q0, Q0'⟩ := (half_share D c 0 2) $$ Q0
  ihave ⟨Q1, Q1'⟩ := (half_share D c 1 2) $$ Q1
  iapply (gather_sends D (K := K) c 2 fullShare.left)
  isplitr; · iexact HR
  isplitl [HS]; · iexact HS
  isplitl [S2]; · iexact S2
  isplitl [Q0 Q1]
  · isplitl [Q0]; · iexact Q0
    iexact Q1
  iintro ⟨HS, N2⟩
  iapply (seq2 (dequant_round D (K := K) c _ _ _ _ (fun _ => rfl) (fun _ => rfl) (fun _ => rfl) (fun _ => rfl) 1 fullShare.right (17 + 2 * (2 : Fin 3).val)))
  isplitl [HS Q0' Q1' L1]
  · isplitr; · iexact HR
    isplitl [HS]; · iexact HS
    isplitl [Q0' Q1']
    · isplitl [Q0']; · iexact Q0'
      iexact Q1'
    iexact L1
  iintro %_ ⟨HS, L1⟩
  iapply (gather_waits D (K := K) c 2)
  isplitr; · iexact HR
  isplitl [HS]; · iexact HS
  isplitl [N2]; · iexact N2
  isplitl [R2]; · iexact R2
  iintro ⟨HS, Q, Z2⟩
  iapply (last (dequant_round D (K := K) c _ _ _ _ (fun _ => rfl) (fun _ => rfl) (fun _ => rfl) (fun _ => rfl) 2 fullShare (17 + 2 * (2 : Fin 3).val)))
  isplitl [HS Q L2]
  · isplitr; · iexact HR
    isplitl [HS]; · iexact HS
    isplitl [Q]; · iexact Q
    iexact L2
  iintro %_ ⟨HS, L2⟩
  isplitl [HS]; · iexact HS
  isplitl [Z0 L0]
  · isplitl [Z0]; · iexact Z0
    iexact L0
  isplitl [Z1 L1]
  · isplitl [Z1]; · iexact Z1
    iexact L1
  isplitl [Z2]; · iexact Z2
  iexact L2

end Cert.KernelIdeal.Work

end
-- ==== Proof.Entry.lean ====
/-
  The kernel's entry: the rows of maxima are set to zero, and every device lends its neighbours what
  they are going to send into.
-/
module

public import proofs.«01_k».proof.Proof.Gather

@[expose] public section

set_option maxRecDepth 16384

noncomputable section

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (D : Inp F) {K : Dev nD × Cl → ℕ}

/-- What device `c` lends the neighbour that transfer `t` reaches it from. -/
def lend (c : Dev nD) (t : Tr) : sProp 𝕄 := match t with
  | .rs d p s => lent c (slot d s p)
  | .ag d s => lent c (qH (adv c d (1 + s.val)) d)
  | .am s => lent c (amRow s)

theorem toward_turn : ∀ (c : Fin 4) (d : Fin 2), toward (toward c (1 - d)) d = c := by decide +kernel
theorem toward_adv : ∀ (c : Fin 4) (d : Fin 2) (s : Fin 3), adv (toward c (1 - d)) d s.val = adv c d (1 + s.val) := by decide +kernel

theorem lend_eq (c : Dev nD) (d : Fin 2) (t : Tr) (h : t.dir = d) : dstLent (F := F) (toward c (1 - d)) t = lend c t := by
  subst h
  cases t with
  | rs d p s => exact congrArg (fun x : Dev nD => lent (F := F) x (slot d s p)) (toward_turn c d)
  | ag d s =>
    show (lent (toward (toward c (1 - d)) d) (qH (adv (toward c (1 - d)) d s.val) d) : sProp 𝕄) = lent c (qH (adv c d (1 + s.val)) d)
    rw [toward_turn, toward_adv]
  | am s => exact congrArg (fun x : Dev nD => lent (F := F) x (amRow s)) (toward_turn c 0)

theorem lend_pay (c : Dev nD) (d : Fin 2) : (barPay (toward c (1 - d)) d : sProp 𝕄) = bigSep (trs d) (lend (F := F) c) :=
  bigSep_congr fun t ht => lend_eq c d t (Finset.mem_filter.mp ht).2

/-- The transfers of the one direction and of the other. -/
theorem trs_zero : trs 0 = [Tr.rs 0 0 0, .rs 0 1 0, .rs 0 0 1, .rs 0 1 1, .rs 0 0 2, .rs 0 1 2, .ag 0 0, .ag 0 1, .ag 0 2, .am 0, .am 1, .am 2].toFinset := by decide
theorem trs_one : trs 1 = [Tr.rs 1 0 0, .rs 1 1 0, .rs 1 0 1, .rs 1 1 1, .rs 1 0 2, .rs 1 1 2, .ag 1 0, .ag 1 1, .ag 1 2].toFinset := by decide

theorem trs_all (Φ : Tr → sProp 𝕄) : iprop(bigSep (trs 0) Φ ∗ bigSep (trs 1) Φ) ⊢ bigSep Finset.univ Φ := by
  have e : (Finset.univ : Finset Tr) = trs 0 ∪ trs 1 := by decide
  have hd : Disjoint (trs 0) (trs 1) := by decide
  rw [e, bigSep_union hd]
  exact BI.Entails.refl _

/-- What is lent in direction `0`, but for the rows of maxima, and in direction `1`. -/
def loan0 (c : Dev nD) : sProp 𝕄 :=
  iprop(lent c (slot 0 0 0) ∗ lent c (slot 0 0 1) ∗ lent c (slot 0 1 0) ∗ lent c (slot 0 1 1) ∗ lent c (slot 0 2 0) ∗ lent c (slot 0 2 1)
    ∗ lent c (qH (adv c 0 1) 0) ∗ lent c (qH (adv c 0 2) 0) ∗ lent c (qH (adv c 0 3) 0))
def loan1 (c : Dev nD) : sProp 𝕄 :=
  iprop(lent c (slot 1 0 0) ∗ lent c (slot 1 0 1) ∗ lent c (slot 1 1 0) ∗ lent c (slot 1 1 1) ∗ lent c (slot 1 2 0) ∗ lent c (slot 1 2 1)
    ∗ lent c (qH (adv c 1 1) 1) ∗ lent c (qH (adv c 1 2) 1) ∗ lent c (qH (adv c 1 3) 1))

theorem loan0_pay (c : Dev nD) : iprop(loan0 c ∗ lent c (amRow 0) ∗ lent c (amRow 1) ∗ lent c (amRow 2)) ⊢ (barPay (toward c 1) 0 : sProp 𝕄) := by
  have e : (bigSep (trs 0) (lend (F := F) c) : sProp 𝕄) = iprop(lent c (slot 0 0 0) ∗ lent c (slot 0 0 1) ∗ lent c (slot 0 1 0) ∗ lent c (slot 0 1 1) ∗ lent c (slot 0 2 0) ∗ lent c (slot 0 2 1)
      ∗ lent c (qH (adv c 0 1) 0) ∗ lent c (qH (adv c 0 2) 0) ∗ lent c (qH (adv c 0 3) 0) ∗ lent c (amRow 0) ∗ lent c (amRow 1) ∗ lent c (amRow 2)) :=
    bigSep_eq_bigSepL_of_eq _ trs_zero (by decide) _
  have h : (barPay (toward c 1) 0 : sProp 𝕄) = bigSep (trs 0) (lend (F := F) c) := lend_pay c 0
  rw [h, e]
  unfold loan0
  iintro ⟨⟨A, B, C, E, G, H, I, J, M⟩, N⟩
  iframe

theorem loan1_pay (c : Dev nD) : loan1 c ⊢ (barPay (toward c 0) 1 : sProp 𝕄) := by
  have e : (bigSep (trs 1) (lend (F := F) c) : sProp 𝕄) = iprop(lent c (slot 1 0 0) ∗ lent c (slot 1 0 1) ∗ lent c (slot 1 1 0) ∗ lent c (slot 1 1 1) ∗ lent c (slot 1 2 0) ∗ lent c (slot 1 2 1)
      ∗ lent c (qH (adv c 1 1) 1) ∗ lent c (qH (adv c 1 2) 1) ∗ lent c (qH (adv c 1 3) 1)) :=
    bigSep_eq_bigSepL_of_eq _ trs_one (by decide) _
  have h : (barPay (toward c 0) 1 : sProp 𝕄) = bigSep (trs 1) (lend (F := F) c) := lend_pay c 1
  rw [h, e]
  exact BI.Entails.refl _

/-! ## The rows of maxima -/

theorem store_rows (c : Dev nD) (v : FVec F S4x128 .f32) :
    lent c (Tl.whole cc0_scratch4)
      ⊢ WP (F := F) c (Prog.lift (.store (Memref.whole cc0_scratch4) (Rect.unit (s := S4x128) ![0, 0] S4x128.size inb_S4x128_S4x128_0_0) v Finset.univ (View.stores_vmem_bits_univ h_S4x128 rfl) (.inl rfl))) fun _ => has c (Tl.whole cc0_scratch4) fullShare v := by
  rw [lent_whole, has, owns_whole]
  iintro ⟨%f, H⟩
  iapply (wp_store 𝒱₀ (c : Thread nD τ) none Set.univ (m := Memref.whole cc0_scratch4) (r := Rect.unit (s := S4x128) ![0, 0] S4x128.size inb_S4x128_S4x128_0_0) (Mk := Finset.univ) (Finset.subset_univ _)) $$ H
  iintro H
  iapply (le_wp_ret _ _ _ _ _)
  rw [show View.write (Elt F) ((Memref.whole cc0_scratch4).access (Rect.unit (s := S4x128) ![0, 0] S4x128.size inb_S4x128_S4x128_0_0)) f v Finset.univ = v from Memref.write_access_unit_zero_univ (Elt F) cc0_scratch4 hz _ f v]
  iexact H

theorem rows_split (c : Dev nD) :
    has c (Tl.whole cc0_scratch4) fullShare (k0_pay3 (F := F)) ⊢ iprop(lent c (amRow 0) ∗ lent c (amRow 1) ∗ lent c (amRow 2) ∗ zrow c : sProp 𝕄) := by
  have h : (has c (Tl.whole cc0_scratch4) fullShare (k0_pay3 (F := F)) : sProp 𝕄)
      ⊢ BI.bigSep Finset.univ fun s => owns (c : Thread nD τ) (rowM s) fullShare (fun j => k0_pay3 (F := F) ((rowR s).emb j)) :=
    owns_rects (c : Thread nD τ) (Memref.whole cc0_scratch4) fullShare rowR (fun _ _ => rfl) rowR_disj rowR_cover (show Vec F S4x128 .f32 from k0_pay3 (F := F))
  rw [bigSep_univ_eq_bigSepL [0, 1, 2, 3] (by decide) (by decide)] at h
  have h' : (has c (Tl.whole cc0_scratch4) fullShare (k0_pay3 (F := F)) : sProp 𝕄) ⊢ iprop(has c (amRow 0) fullShare (fun j => k0_pay3 (F := F) ((rowR 0).emb j)) ∗ has c (amRow 1) fullShare (fun j => k0_pay3 (F := F) ((rowR 1).emb j)) ∗ has c (amRow 2) fullShare (fun j => k0_pay3 (F := F) ((rowR 2).emb j)) ∗ zrow c) := h
  refine BIBase.Entails.trans h' ?_
  iintro ⟨A, B, C, E⟩
  isplitl [A]; · iapply (has_lent c (amRow 0) _); iexact A
  isplitl [B]; · iapply (has_lent c (amRow 1) _); iexact B
  isplitl [C]; · iapply (has_lent c (amRow 2) _); iexact C
  unfold zrow
  iexact E

/-! ## The barrier -/

/-- What the entry needs, -/
def entryIn (c : Dev nD) : sProp 𝕄 :=
  iprop(lent c (Tl.whole cc0_scratch4) ∗ loan0 c ∗ loan1 c ∗ (∃ W, owes (c : Thread nD τ) (O₀ c) W)
    ∗ dutyTok ER (barC (toward c 1)) 0 0 ∗ dutyTok ER (barC (toward c 0)) 0 1 ∗ cred (tallyAt (barC c) () 2) ∗ atPos ER (barC c) 0 ∅ 0)

/-- and what it leaves. -/
def entryOut (c : Dev nD) : sProp 𝕄 := iprop(zrow c ∗ debt c 0 ∗ semVal (barC c) 0 ∗ bigSep Finset.univ (dstLent (F := F) c))

theorem entry_spec (c : Dev nD) : iprop(recs D K ∗ entryIn c) ⊢ WP (F := F) c (entry c) fun _ => entryOut c := by
  unfold entry entryIn entryOut
  rw [dev1_eq, dev2_eq]
  iintro ⟨#HR, Hs, A0, A1, ⟨%W, HO⟩, T1, T0, Hc, Hat⟩
  ihave ⟨%w, Hs⟩ := (lent_has c (Tl.whole cc0_scratch4)) $$ Hs
  iapply (seq (load_rows c w))
  isplitl [Hs]; · iexact Hs
  iintro %_ ⟨-, Hs⟩
  ihave Hs := (has_lent c (Tl.whole cc0_scratch4) w) $$ Hs
  iapply (seq (store_rows c k0_pay3))
  isplitl [Hs]; · iexact Hs
  iintro %_ Hs
  ihave ⟨R0, R1, R2, Hz⟩ := (rows_split c) $$ Hs
  simp only [semSignalWord, semWaitWord, Prog.lift, Prog.bind_op, Prog.bind_ret, Prog.pure_eq_ret]
  unfold O₀
  ihave #HIa := (recs_inv D K (toward c 1, none)) $$ HR
  ihave #HIb := (recs_inv D K (toward c 0, none)) $$ HR
  ihave #HIc := (recs_inv D K (c, none)) $$ HR
  ihave #Hra := (recs_reached D K (toward c 1, none)) $$ HR
  ihave #Hrb := (recs_reached D K (toward c 0, none)) $$ HR
  iapply (Rounds.wp_signal 𝒱₀ ER (Rd D) (c : Thread nD τ) none (dst := (toward c 1 : Thread nD τ)) (κ := K (toward c 1, none))
      (d := 0) (by rw [show (((toward c 1 : Thread nD τ)), SemLoc.reg barS) = barC (toward c 1) from rfl, duties_bar]; exact Finset.mem_univ _) ((amount_bar D (toward c 1) 0).trans (by decide)) () (debtO c 0 + tallyAt (barC (toward c 0)) () 1) rfl)
    $$ [HO T1 A0 R0 R1 R2]
  · isplitr; · iexact HIa
    isplitl [HO]; · iexact HO
    isplitl [T1]; · iexact T1
    isplitl [A0 R0 R1 R2]
    · iapply (Entails.of_eq (show barPay (toward c 1) 0 = (Rd D).payload ((toward c 1 : Thread nD τ), SemLoc.reg barS) 0 0 from (payload_bar D (toward c 1) 0).symm))
      iapply (loan0_pay c)
      iframe
    iexact Hra
  iintro HO
  iapply (Rounds.wp_signal 𝒱₀ ER (Rd D) (c : Thread nD τ) none (dst := (toward c 0 : Thread nD τ)) (κ := K (toward c 0, none))
      (d := 1) (by rw [show (((toward c 0 : Thread nD τ)), SemLoc.reg barS) = barC (toward c 0) from rfl, duties_bar]; exact Finset.mem_univ _) ((amount_bar D (toward c 0) 1).trans (by decide)) () (debtO c 0) rfl)
    $$ [HO T0 A1]
  · isplitr; · iexact HIb
    isplitl [HO]; · iexact HO
    isplitl [T0]; · iexact T0
    isplitl [A1]
    · iapply (Entails.of_eq (show barPay (toward c 0) 1 = (Rd D).payload ((toward c 0 : Thread nD τ), SemLoc.reg barS) 0 1 from (payload_bar D (toward c 0) 1).symm))
      iapply (loan1_pay c)
      iexact A1
    iexact Hrb
  iintro HO
  iapply (Rounds.wp_wait_rest_token 𝒱₀ ER (Rd D) (c : Thread nD τ) none (κ := K (c, none))
      (wpE_semWait_eq 𝒱₀ (c : Thread nD τ) none Set.univ) (Set.mem_univ _) () (O := debtO c 0) (W := W) (R := 0) (m := 0) (T := ∅)
      (by rw [show (((c : Thread nD τ)), SemLoc.reg barS) = barC c from rfl, expect_bar]; decide)) $$ [Hc HO Hat]
  · isplitr; · iexact HIc
    isplitl [Hc]; · iexact Hc
    isplitl [HO]; · iexact HO
    isplitr
    · iapply (mayWait c (SemLoc.reg barS) 0 1 (le_of_eq (lv_bar c ())) (fun t' _ => lev_gt1 t')); iapply (recs_lev D K); iexact HR
    iexact Hat
  iintro ⟨HO, Hat, -, Hp⟩
  imod (Rounds.cell_close ER (Rd D) (Set.mem_univ (K (c, none))) (fun h => h) (R := 0 + 1) (duties_later D (barC c))) $$ [Hat] with Hv
  · isplitr; · iexact HIc
    iexact Hat
  iapply (le_wp_ret _ _ _ _ _)
  ihave Hp := (Entails.of_eq (show (bigSep ((Rd D).duties ((c : Thread nD τ), SemLoc.reg barS) 0 \ ∅) fun d => (Rd D).payload ((c : Thread nD τ), SemLoc.reg barS) 0 d) = iprop(barPay c 0 ∗ barPay c 1) from rest_bar D c)) $$ Hp
  isplitl [Hz]; · iexact Hz
  isplitl [HO]
  · unfold debt; iexists _; iexact HO
  isplitl [Hv]; · iexact Hv
  iapply (trs_all (dstLent (F := F) c))
  iexact Hp

end Cert.KernelIdeal.Work

end
-- ==== Proof.Work.lean ====
/-
  The kernel's work, phase by phase, from what a device starts with to the result it leaves.
-/
module

public import proofs.«01_k».proof.Proof.Entry

@[expose] public section

set_option maxRecDepth 16384

noncomputable section

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (D : Inp F) {K : Dev nD × Cl → ℕ}

/-! ## The tiles and the transfers, in the order the kernel meets them -/

/-- The sixteen tiles met from `a` steps along the rings on. -/
def around (c : Fin 4) (a : ℕ) : List (Fin 4 × Fin 4) :=
  [a, a + 1, a + 2, a + 3].flatMap fun b => [(adv c 0 b, col 0 0), (adv c 1 b, col 1 0), (adv c 0 b, col 0 1), (adv c 1 b, col 1 1)]

theorem around_zero : ∀ c : Fin 4, (Finset.univ : Finset (Fin 4 × Fin 4)) = (around c 0).toFinset := by decide
theorem around_one : ∀ c : Fin 4, (Finset.univ : Finset (Fin 4 × Fin 4)) = (around c 1).toFinset := by decide
theorem around_nodup : ∀ (c : Fin 4), (around c 0).Nodup ∧ (around c 1).Nodup := by decide

/-- Four rounds of tiles. -/
abbrev rounds (c : Fin 4) (a : ℕ) (Φ : Fin 4 → Fin 4 → sProp 𝕄) : sProp 𝕄 :=
  iprop((lanes fun d p => Φ (adv c d a) (col d p)) ∗ (lanes fun d p => Φ (adv c d (a + 1)) (col d p))
    ∗ (lanes fun d p => Φ (adv c d (a + 2)) (col d p)) ∗ lanes fun d p => Φ (adv c d (a + 3)) (col d p))

theorem lanes_assoc (A B C E : Fin 2 → Fin 2 → sProp 𝕄) :
    iprop(A 0 0 ∗ A 1 0 ∗ A 0 1 ∗ A 1 1 ∗ B 0 0 ∗ B 1 0 ∗ B 0 1 ∗ B 1 1 ∗ C 0 0 ∗ C 1 0 ∗ C 0 1 ∗ C 1 1 ∗ E 0 0 ∗ E 1 0 ∗ E 0 1 ∗ E 1 1)
      ⊣⊢ iprop(lanes A ∗ lanes B ∗ lanes C ∗ lanes E) := by
  unfold lanes
  constructor
  · iintro ⟨A0, A1, A2, A3, B0, B1, B2, B3, C0, C1, C2, C3, E0, E1, E2, E3⟩
    iframe
  · iintro ⟨⟨A0, A1, A2, A3⟩, ⟨B0, B1, B2, B3⟩, ⟨C0, C1, C2, C3⟩, ⟨E0, E1, E2, E3⟩⟩
    iframe

theorem rounds_zero (c : Fin 4) (Φ : Fin 4 → Fin 4 → sProp 𝕄) : (BI.bigSep Finset.univ fun t : Fin 4 × Fin 4 => Φ t.1 t.2) ⊣⊢ rounds c 0 Φ := by
  rw [bigSep_univ_eq_bigSepL (around c 0) (around_zero c) (around_nodup c).1]
  exact lanes_assoc (fun d p => Φ (adv c d 0) (col d p)) (fun d p => Φ (adv c d (0 + 1)) (col d p)) (fun d p => Φ (adv c d (0 + 2)) (col d p)) (fun d p => Φ (adv c d (0 + 3)) (col d p))

theorem rounds_one (c : Fin 4) (Φ : Fin 4 → Fin 4 → sProp 𝕄) : (BI.bigSep Finset.univ fun t : Fin 4 × Fin 4 => Φ t.1 t.2) ⊣⊢ rounds c 1 Φ := by
  rw [bigSep_univ_eq_bigSepL (around c 1) (around_one c) (around_nodup c).2]
  exact lanes_assoc (fun d p => Φ (adv c d 1) (col d p)) (fun d p => Φ (adv c d (1 + 1)) (col d p)) (fun d p => Φ (adv c d (1 + 2)) (col d p)) (fun d p => Φ (adv c d (1 + 3)) (col d p))

/-- The tiles row by row. -/
abbrev byRow (Φ : Fin 4 → Fin 4 → sProp 𝕄) : sProp 𝕄 :=
  iprop((Φ 0 0 ∗ Φ 0 1 ∗ Φ 0 2 ∗ Φ 0 3) ∗ (Φ 1 0 ∗ Φ 1 1 ∗ Φ 1 2 ∗ Φ 1 3) ∗ (Φ 2 0 ∗ Φ 2 1 ∗ Φ 2 2 ∗ Φ 2 3) ∗ (Φ 3 0 ∗ Φ 3 1 ∗ Φ 3 2 ∗ Φ 3 3))

theorem by_row (Φ : Fin 4 → Fin 4 → sProp 𝕄) : (BI.bigSep Finset.univ fun t : Fin 4 × Fin 4 => Φ t.1 t.2) = byRow Φ := by
  have h (Ψ : Fin 4 → sProp 𝕄) : bigSep Finset.univ Ψ = iprop(Ψ 0 ∗ Ψ 1 ∗ Ψ 2 ∗ Ψ 3) := bigSep_univ_eq_bigSepL [0, 1, 2, 3] (by decide) (by decide) Ψ
  rw [bigSep_univ_prod, h, h, h, h, h]

/-- The transfers, round by round. -/
theorem by_round (Φ : Tr → sProp 𝕄) : bigSep Finset.univ Φ
    ⊣⊢ iprop((lanes fun d p => Φ (.rs d p 0)) ∗ (lanes fun d p => Φ (.rs d p 1)) ∗ (lanes fun d p => Φ (.rs d p 2))
      ∗ (Φ (.ag 0 0) ∗ Φ (.ag 1 0)) ∗ (Φ (.ag 0 1) ∗ Φ (.ag 1 1)) ∗ (Φ (.ag 0 2) ∗ Φ (.ag 1 2)) ∗ Φ (.am 0) ∗ Φ (.am 1) ∗ Φ (.am 2)) := by
  have e : bigSep Finset.univ Φ = iprop(Φ (.rs 0 0 0) ∗ Φ (.rs 1 0 0) ∗ Φ (.rs 0 1 0) ∗ Φ (.rs 1 1 0) ∗ Φ (.rs 0 0 1) ∗ Φ (.rs 1 0 1) ∗ Φ (.rs 0 1 1) ∗ Φ (.rs 1 1 1) ∗ Φ (.rs 0 0 2) ∗ Φ (.rs 1 0 2) ∗ Φ (.rs 0 1 2) ∗ Φ (.rs 1 1 2) ∗ Φ (.ag 0 0) ∗ Φ (.ag 1 0) ∗ Φ (.ag 0 1) ∗ Φ (.ag 1 1) ∗ Φ (.ag 0 2) ∗ Φ (.ag 1 2) ∗ Φ (.am 0) ∗ Φ (.am 1) ∗ Φ (.am 2)) :=
    bigSep_univ_eq_bigSepL [Tr.rs 0 0 0, .rs 1 0 0, .rs 0 1 0, .rs 1 1 0, .rs 0 0 1, .rs 1 0 1, .rs 0 1 1, .rs 1 1 1, .rs 0 0 2, .rs 1 0 2, .rs 0 1 2, .rs 1 1 2, .ag 0 0, .ag 1 0, .ag 0 1, .ag 1 1, .ag 0 2, .ag 1 2, .am 0, .am 1, .am 2] (by decide) (by decide) Φ
  rw [e]
  unfold lanes
  constructor
  · iintro ⟨H0, H1, H2, H3, H4, H5, H6, H7, H8, H9, H10, H11, H12, H13, H14, H15, H16, H17, H18, H19, H20⟩
    iframe
  · iintro ⟨⟨H0, H1, H2, H3⟩, ⟨H4, H5, H6, H7⟩, ⟨H8, H9, H10, H11⟩, ⟨H12, H13⟩, ⟨H14, H15⟩, ⟨H16, H17⟩, H18, H19, H20⟩
    iframe

/-! ## The work -/

/-- The receipts' and completions' positions and duties. -/
def sk' (c : Dev nD) (t : Tr) : sProp 𝕄 := iprop(dutyTok ER (sndC c t) 0 0 ∗ dutyTok ER (rcvC (dest c t) t) 0 0 ∗ atPos ER (sndC c t) 0 ∅ 0)

theorem sk_all (c : Dev nD) : iprop(bigSep Finset.univ (sk' (F := F) c) ∗ bigSep Finset.univ (dstLent (F := F) c)) ⊢ (bigSep Finset.univ (Sk c) : sProp 𝕄) := by
  rw [← bigSep_sep']
  refine bigSep_mono fun t _ => ?_
  show iprop(sk' c t ∗ dstLent c t) ⊢ Sk c t
  unfold sk' Sk
  iintro ⟨⟨A, B, C⟩, E⟩
  iframe

/-- What a device starts its work with, -/
def workIn (c : Dev nD) : sProp 𝕄 :=
  iprop(entryIn c ∗ bigSep Finset.univ (sk' (F := F) c) ∗ bigSep Finset.univ (Rk (F := F) c)
    ∗ (lent c ta ∗ lent c tb ∗ lent c tq ∗ zero c (lsem 0) ∗ zero c (lsem 1)) ∗ lent c amSrc
    ∗ has c stX fullShare (D.x c) ∗ has c stW fullShare (D.w c)
    ∗ byRow (accL (F := F) c) ∗ byRow (outL (F := F) c) ∗ lanes fun d p => lent c (qT c (col d p)))

/-- The counters a transfer leaves at zero. -/
def zz (c : Dev nD) (t : Tr) : sProp 𝕄 := iprop(zero c t.snd ∗ zero c t.rcv)

/-- and what it leaves. -/
def workOut (c : Dev nD) : sProp 𝕄 :=
  iprop((lent c ta ∗ lent c tb ∗ lent c tq ∗ zero c (lsem 0) ∗ zero c (lsem 1)) ∗ lent c amSrc ∗ lent c (Tl.whole cc0_scratch4)
    ∗ has c stX fullShare (D.x c) ∗ has c stW fullShare (D.w c)
    ∗ semVal (barC c) 0 ∗ bigSep Finset.univ (zz (F := F) c) ∗ (∃ W, owes (c : Thread nD τ) 0 W)
    ∗ has c (Tl.whole main_v1_0) fullShare (result D c))

theorem quant_all (c : Dev nD) (v : F .f32) (rs : Vec F S4x128 .f32) (hv : v = mx D c) (hr : rs = rows D c) {β : Type} {k : TcProg F β} {Φ : β → sProp 𝕄} :
    iprop(recs D K ∗ sh c 15 ∗ (lanes fun d p => has c (slot d 2 p) fullShare (fin D d p c)) ∗ (lanes fun d p => lent c (qT c (col d p))) ∗ (lanes fun d p => lent c (outT c (col d p)))
      ∗ (iprop(sh c 15 ∗ (lanes fun d p => has c (qT c (col d p)) fullShare (qv D d p c)) ∗ (lanes fun d p => has c (outT c (col d p)) fullShare (ov D d p c))) -∗ WP c k Φ))
      ⊢ WP (F := F) c (do
          quant c (fun a => k0_pay48 (k0_pay47 v rs a)) (fun a => k0_pay49 (k0_pay44 v rs) (k0_pay46 v rs a)) 0 0
          quant c (k0_pay51 (k0_pay45 v rs)) (k0_pay52 (k0_pay44 v rs) (k0_pay45 v rs)) 0 1
          quant c (k0_pay54 (k0_pay45 v rs)) (k0_pay55 (k0_pay44 v rs) (k0_pay45 v rs)) 1 0
          quant c (k0_pay57 (k0_pay45 v rs)) (fun a => k0_pay58 (k0_pay44 v rs) (k0_pay56 (k0_pay45 v rs) a)) 1 1
          k) Φ := by
  subst hv hr
  unfold lanes
  iintro ⟨#HR, HS, ⟨A0, A1, A2, A3⟩, ⟨Q0, Q1, Q2, Q3⟩, ⟨O0, O1, O2, O3⟩, Hk⟩
  iapply (seq (quant_spec (D := D) (K := K) c _ _ 0 0 _ 15))
  isplitl [HS A0 Q0 O0]
  · isplitr; · iexact HR
    isplitl [HS]; · iexact HS
    isplitl [A0]; · iexact A0
    isplitl [Q0] <;> iassumption
  iintro %_ ⟨HS, Q0, O0⟩
  iapply (seq (quant_spec (D := D) (K := K) c _ _ 0 1 _ 15))
  isplitl [HS A2 Q2 O2]
  · isplitr; · iexact HR
    isplitl [HS]; · iexact HS
    isplitl [A2]; · iexact A2
    isplitl [Q2] <;> iassumption
  iintro %_ ⟨HS, Q2, O2⟩
  iapply (seq (quant_spec (D := D) (K := K) c _ _ 1 0 _ 15))
  isplitl [HS A1 Q1 O1]
  · isplitr; · iexact HR
    isplitl [HS]; · iexact HS
    isplitl [A1]; · iexact A1
    isplitl [Q1] <;> iassumption
  iintro %_ ⟨HS, Q1, O1⟩
  iapply (seq (quant_spec (D := D) (K := K) c _ _ 1 1 _ 15))
  isplitl [HS A3 Q3 O3]
  · isplitr; · iexact HR
    isplitl [HS]; · iexact HS
    isplitl [A3]; · iexact A3
    isplitl [Q3] <;> iassumption
  iintro %_ ⟨HS, Q3, O3⟩
  iapply Hk
  isplitl [HS]; · iexact HS
  isplitl [Q0 Q1 Q2 Q3]
  · isplitl [Q0]; · iexact Q0
    isplitl [Q1]; · iexact Q1
    isplitl [Q2]; · iexact Q2
    iexact Q3
  isplitl [O0]; · iexact O0
  isplitl [O1]; · iexact O1
  isplitl [O2]; · iexact O2
  iexact O3

/-- The own rows, quantised, are the halves sent first. -/
theorem own_halves (c : Dev nD) : (lanes fun d p => has c (qT c (col d p)) fullShare (qv D d p c)) ⊢ iprop(halfAt D c 0 0 fullShare ∗ halfAt D c 1 0 fullShare : sProp 𝕄) := by
  unfold lanes halfAt
  rw [adv_zero, adv_zero]
  iintro ⟨Q0, Q1, Q2, Q3⟩
  isplitl [Q0 Q2]
  · iapply (half_join c c 0 fullShare (fun p => qv D 0 p c))
    isplitl [Q0] <;> iassumption
  iapply (half_join c c 1 fullShare (fun p => qv D 1 p c))
  isplitl [Q1] <;> iassumption

theorem gemm_all (c : Fin 4) {β : Type} {k : TcProg F β} {Φ : β → sProp 𝕄} :
    iprop(recs D K ∗ sh c 0 ∗ has c stX fullShare (D.x c) ∗ has c stW fullShare (D.w c) ∗ byRow (accL (F := F) c)
      ∗ (iprop(sh c 0 ∗ has c stX fullShare (D.x c) ∗ has c stW fullShare (D.w c) ∗ byRow (accH D c)) -∗ WP c k Φ))
      ⊢ WP (F := F) c (do
          gemmRow stX.m stW.m 0
          gemmRow stX.m stW.m 1
          gemmRow stX.m stW.m 2
          gemmRow stX.m stW.m 3
          k) Φ := by
  iintro ⟨#HR, HS, HX, HW, ⟨A0, A1, A2, A3⟩, Hk⟩
  iapply (seq (gemm_row D (K := K) c 0 0))
  isplitl [HS HX HW A0]
  · isplitr; · iexact HR
    isplitl [HS]; · iexact HS
    isplitl [HX]; · iexact HX
    isplitl [HW]; · iexact HW
    iexact A0
  iintro %_ ⟨HS, HX, HW, A0⟩
  iapply (seq (gemm_row D (K := K) c 1 0))
  isplitl [HS HX HW A1]
  · isplitr; · iexact HR
    isplitl [HS]; · iexact HS
    isplitl [HX]; · iexact HX
    isplitl [HW]; · iexact HW
    iexact A1
  iintro %_ ⟨HS, HX, HW, A1⟩
  iapply (seq (gemm_row D (K := K) c 2 0))
  isplitl [HS HX HW A2]
  · isplitr; · iexact HR
    isplitl [HS]; · iexact HS
    isplitl [HX]; · iexact HX
    isplitl [HW]; · iexact HW
    iexact A2
  iintro %_ ⟨HS, HX, HW, A2⟩
  iapply (seq (gemm_row D (K := K) c 3 0))
  isplitl [HS HX HW A3]
  · isplitr; · iexact HR
    isplitl [HS]; · iexact HS
    isplitl [HX]; · iexact HX
    isplitl [HW]; · iexact HW
    iexact A3
  iintro %_ ⟨HS, HX, HW, A3⟩
  iapply Hk
  isplitl [HS]; · iexact HS
  isplitl [HX]; · iexact HX
  isplitl [HW]; · iexact HW
  isplitl [A0]; · iexact A0
  isplitl [A1]; · iexact A1
  isplitl [A2]; · iexact A2
  iexact A3

/-- The whole result from its tiles. -/
theorem out_join (c : Dev nD) :
    iprop((lanes fun d p => has c (outT c (col d p)) fullShare (ov D d p c)) ∗ roundH D c 1 ∗ roundH D c 2 ∗ roundH D c 3)
      ⊢ (has c (Tl.whole main_v1_0) fullShare (result D c) : sProp 𝕄) := by
  have h : (BI.bigSep Finset.univ fun t => owns (c : Thread nD τ) ((Memref.whole main_v1_0).slice (tileR t) (fun _ => rfl)) fullShare (fun j => result D c ((tileR t).emb j)) : sProp 𝕄) ⊢ has c (Tl.whole main_v1_0) fullShare (result D c) :=
    owns_of_rects (c : Thread nD τ) (Memref.whole main_v1_0) fullShare tileR (fun _ _ => rfl) tileR_disj tileR_cover (result D c)
  have e : (fun t => owns (c : Thread nD τ) ((Memref.whole main_v1_0).slice (tileR t) (fun _ => rfl)) fullShare (fun j => result D c ((tileR t).emb j)) : Fin 4 × Fin 4 → sProp 𝕄)
      = fun t => outH D c t.1 t.2 :=
    funext fun t => congrArg (owns (c : Thread nD τ) ((Memref.whole main_v1_0).slice (tileR t) (fun _ => rfl)) fullShare) (result_tile D c t.1 t.2)
  rw [e] at h
  refine BIBase.Entails.trans ?_ ((rounds_zero c (outH D c)).2.trans h)
  have e0 : (lanes fun d p => has c (outT c (col d p)) fullShare (ov D d p c) : sProp 𝕄) = lanes fun d p => outH D c (adv c d 0) (col d p) := by
    unfold lanes outH
    simp only [adv_zero, outv_own]
  rw [e0]

theorem own_out (c : Dev nD) : (lanes fun d p => outL (F := F) c (adv c d 0) (col d p) : sProp 𝕄) = lanes fun d p => lent c (outT c (col d p)) := by
  unfold lanes outL
  simp only [adv_zero]

/-- The work of a device. -/
theorem work_spec (c : Dev nD) : iprop(recs D K ∗ workIn D c) ⊢ WP (F := F) c (work stX.m stW.m c) fun _ => workOut D c := by
  unfold work workIn workOut
  iintro ⟨#HR, HE, HK, HRk, ⟨Ha, Hb, Hq, H0, H1⟩, Hs, HX, HW, HA, HOu, HQ⟩
  iapply (seq (entry_spec D (K := K) c))
  isplitl [HE]
  · isplitr; · iexact HR
    iexact HE
  unfold entryOut
  iintro %_ ⟨Hz, HO, Hbar, HL⟩
  ihave HSk := (sk_all (F := F) c) $$ [HK HL]
  · isplitl [HK] <;> iassumption
  ihave ⟨S0, S1, S2, G0, G1, G2, M0, M1, M2⟩ := (by_round (Sk (F := F) c)).1 $$ HSk
  ihave ⟨R0, R1, R2, L0, L1, L2, N0, N1, N2⟩ := (by_round (Rk (F := F) c)).1 $$ HRk
  iapply (gemm_all D (K := K) c)
  isplitr; · iexact HR
  isplitl [Ha Hb Hq H0 H1 HO]
  · unfold sh
    iframe
  isplitl [HX]; · iexact HX
  isplitl [HW]; · iexact HW
  isplitl [HA]; · iexact HA
  iintro ⟨HS, HX, HW, HA⟩
  ihave HA := (Entails.of_eq (by_row (accH D c)).symm) $$ HA
  ihave ⟨A1, A2, A3, A4⟩ := (rounds_one c (accH D c)).1 $$ HA
  ihave HOu := (Entails.of_eq (by_row (outL (F := F) c)).symm) $$ HOu
  ihave ⟨O0, O1, O2, O3⟩ := (rounds_zero c (outL (F := F) c)).1 $$ HOu
  iapply (seq (scatter_spec D (K := K) c))
  isplitl [HS A1 A2 A3 A4 S0 S1 S2 R0 R1 R2]
  · isplitr; · iexact HR
    isplitl [HS]; · iexact HS
    unfold scatterIn lanes
    icases A1 with ⟨A10, A11, A12, A13⟩
    icases A2 with ⟨A20, A21, A22, A23⟩
    icases A3 with ⟨A30, A31, A32, A33⟩
    icases A4 with ⟨A40, A41, A42, A43⟩
    icases S0 with ⟨S00, S01, S02, S03⟩
    icases S1 with ⟨S10, S11, S12, S13⟩
    icases S2 with ⟨S20, S21, S22, S23⟩
    icases R0 with ⟨R00, R01, R02, R03⟩
    icases R1 with ⟨R10, R11, R12, R13⟩
    icases R2 with ⟨R20, R21, R22, R23⟩
    isplitl [A10 A11 A12 A13 S00 S01 S02 S03]
    · isplitl [A10 S00]
      · isplitl [A10]; · iexact A10
        iexact S00
      isplitl [A11 S01]
      · isplitl [A11]; · iexact A11
        iexact S01
      isplitl [A12 S02]
      · isplitl [A12]; · iexact A12
        iexact S02
      isplitl [A13]; · iexact A13
      iexact S03
    isplitl [A20 R00 S10 A21 R01 S11 A22 R02 S12 A23 R03 S13]
    · isplitl [A20 R00 S10]
      · isplitl [A20]; · iexact A20
        isplitl [R00]; · iexact R00
        iexact S10
      isplitl [A21 R01 S11]
      · isplitl [A21]; · iexact A21
        isplitl [R01]; · iexact R01
        iexact S11
      isplitl [A22 R02 S12]
      · isplitl [A22]; · iexact A22
        isplitl [R02]; · iexact R02
        iexact S12
      isplitl [A23]; · iexact A23
      isplitl [R03]; · iexact R03
      iexact S13
    isplitl [A30 R10 S20 A31 R11 S21 A32 R12 S22 A33 R13 S23]
    · isplitl [A30 R10 S20]
      · isplitl [A30]; · iexact A30
        isplitl [R10]; · iexact R10
        iexact S20
      isplitl [A31 R11 S21]
      · isplitl [A31]; · iexact A31
        isplitl [R11]; · iexact R11
        iexact S21
      isplitl [A32 R12 S22]
      · isplitl [A32]; · iexact A32
        isplitl [R12]; · iexact R12
        iexact S22
      isplitl [A33]; · iexact A33
      isplitl [R13]; · iexact R13
      iexact S23
    isplitl [A40 R20]
    · isplitl [A40]; · iexact A40
      iexact R20
    isplitl [A41 R21]
    · isplitl [A41]; · iexact A41
      iexact R21
    isplitl [A42 R22]
    · isplitl [A42]; · iexact A42
      iexact R22
    isplitl [A43]; · iexact A43
    iexact R23
  iintro %v ⟨%hv, HS, HZ⟩
  unfold scatterOut
  icases HZ with ⟨Z0, Z1, Z2, Y0, Y1, HF⟩
  unfold sh
  icases HS with ⟨Ha, Hb, Hq, H0, H1, HO⟩
  rw [hv]
  iapply (seq (max_ring D (K := K) c))
  isplitl [HO Hs Hz M0 M1 M2 N0 N1 N2]
  · isplitr; · iexact HR
    isplitl [HO]; · iexact HO
    unfold maxIn
    iframe
  unfold maxOut
  iintro %rs ⟨%hr, HO, Hs, Hw, ⟨X0, X0'⟩, ⟨X1, X1'⟩, X2, X2'⟩
  unfold lanes lastOut
  icases HF with ⟨⟨F0, V0⟩, ⟨F1, V1⟩, ⟨F2, V2⟩, F3, V3⟩
  iapply (quant_all D (K := K) c (mx D c) rs rfl hr)
  isplitr; · iexact HR
  isplitl [Ha Hb Hq H0 H1 HO]
  · unfold sh
    iframe
  isplitl [F0 F1 F2 F3]
  · unfold lanes
    iframe
  isplitl [HQ]
  · unfold lanes; iexact HQ
  isplitl [O0]
  · iapply (Entails.of_eq (own_out (F := F) c))
    unfold lanes
    iexact O0
  iintro ⟨HS, HQ, O0⟩
  ihave HQ := (own_halves D c) $$ HQ
  rw [hr]
  iapply (last (gather_spec D (K := K) c))
  isplitl [HS HQ G0 G1 G2 L0 L1 L2 O1 O2 O3]
  · isplitr; · iexact HR
    isplitl [HS]; · iexact HS
    unfold gatherIn roundL lanes
    isplitl [HQ]; · iexact HQ
    isplitl [G0 L0 O1]
    · isplitl [G0]; · iexact G0
      isplitl [L0]; · iexact L0
      iexact O1
    isplitl [G1 L1 O2]
    · isplitl [G1]; · iexact G1
      isplitl [L1]; · iexact L1
      iexact O2
    isplitl [G2]; · iexact G2
    isplitl [L2]; · iexact L2
    iexact O3
  unfold gatherOut sh
  iintro %_ ⟨⟨Ha, Hb, Hq, H0, H1, HO⟩, ⟨⟨⟨W0, W0'⟩, W1, W1'⟩, P1⟩, ⟨⟨⟨W2, W2'⟩, W3, W3'⟩, P2⟩, ⟨⟨W4, W4'⟩, W5, W5'⟩, P3⟩
  isplitl [Ha Hb Hq H0 H1]
  · iframe
  isplitl [Hs]; · iexact Hs
  isplitl [Hw]; · iexact Hw
  isplitl [HX]; · iexact HX
  isplitl [HW]; · iexact HW
  isplitl [Hbar]; · iexact Hbar
  isplitl [Z0 Z1 Z2 Y0 Y1 V0 V1 V2 V3 X0 X0' X1 X1' X2 X2' W0 W0' W1 W1' W2 W2' W3 W3' W4 W4' W5 W5']
  · iapply (by_round (zz (F := F) c)).2
    unfold zz lanes
    icases Z0 with ⟨Z00, Z01, Z02, Z03⟩
    icases Z1 with ⟨Z10, Z11, Z12, Z13⟩
    icases Z2 with ⟨Z20, Z21, Z22, Z23⟩
    icases Y0 with ⟨Y00, Y01, Y02, Y03⟩
    icases Y1 with ⟨Y10, Y11, Y12, Y13⟩
    isplitl [Z00 Y00 Z01 Y01 Z02 Y02 Z03 Y03]
    · isplitl [Z00 Y00]
      · isplitl [Z00]; · iexact Z00
        iexact Y00
      isplitl [Z01 Y01]
      · isplitl [Z01]; · iexact Z01
        iexact Y01
      isplitl [Z02 Y02]
      · isplitl [Z02]; · iexact Z02
        iexact Y02
      isplitl [Z03]; · iexact Z03
      iexact Y03
    isplitl [Z10 Y10 Z11 Y11 Z12 Y12 Z13 Y13]
    · isplitl [Z10 Y10]
      · isplitl [Z10]; · iexact Z10
        iexact Y10
      isplitl [Z11 Y11]
      · isplitl [Z11]; · iexact Z11
        iexact Y11
      isplitl [Z12 Y12]
      · isplitl [Z12]; · iexact Z12
        iexact Y12
      isplitl [Z13]; · iexact Z13
      iexact Y13
    isplitl [Z20 V0 Z21 V1 Z22 V2 Z23 V3]
    · isplitl [Z20 V0]
      · isplitl [Z20]; · iexact Z20
        iexact V0
      isplitl [Z21 V1]
      · isplitl [Z21]; · iexact Z21
        iexact V1
      isplitl [Z22 V2]
      · isplitl [Z22]; · iexact Z22
        iexact V2
      isplitl [Z23]; · iexact Z23
      iexact V3
    isplitl [W0 W0' W1 W1']
    · isplitl [W0 W0']
      · isplitl [W0]; · iexact W0
        iexact W0'
      isplitl [W1]; · iexact W1
      iexact W1'
    isplitl [W2 W2' W3 W3']
    · isplitl [W2 W2']
      · isplitl [W2]; · iexact W2
        iexact W2'
      isplitl [W3]; · iexact W3
      iexact W3'
    isplitl [W4 W4' W5 W5']
    · isplitl [W4 W4']
      · isplitl [W4]; · iexact W4
        iexact W4'
      isplitl [W5]; · iexact W5
      iexact W5'
    isplitl [X0 X0']
    · isplitl [X0]; · iexact X0
      iexact X0'
    isplitl [X1 X1']
    · isplitl [X1]; · iexact X1
      iexact X1'
    isplitl [X2]; · iexact X2
    iexact X2'
  isplitl [HO]
  · unfold debt
    icases HO with ⟨%W, HO⟩
    iexists W
    rw [debtO_end]
    iexact HO
  iapply (out_join D c)
  isplitl [O0]; · iexact O0
  isplitl [P1]; · iexact P1
  isplitl [P2]; · iexact P2
  iexact P3

end Cert.KernelIdeal.Work

end
-- ==== Proof.Split.lean ====
module

public import proofs.«01_k».proof.Proof.Work

@[expose] public section

set_option maxRecDepth 16384

noncomputable section

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The buffers, cut as the work uses them -/

theorem out_split (c : Dev nD) : lent c (Tl.whole main_v1_0) ⊢ (byRow (outL (F := F) c) : sProp 𝕄) := by
  refine BIBase.Entails.trans (lent_has c (Tl.whole main_v1_0)) ?_
  iintro ⟨%v, H⟩
  have h : (has c (Tl.whole main_v1_0) fullShare v : sProp 𝕄) ⊢ BI.bigSep Finset.univ fun t => owns (c : Thread nD τ) ((Memref.whole main_v1_0).slice (tileR t) (fun _ => rfl)) fullShare (fun j => v ((tileR t).emb j)) :=
    owns_rects (c : Thread nD τ) (Memref.whole main_v1_0) fullShare tileR (fun _ _ => rfl) tileR_disj tileR_cover v
  iapply ((h.trans (bigSep_mono fun t _ => show _ ⊢ outL c t.1 t.2 from has_lent c (outT t.1 t.2) _)).trans (Entails.of_eq (by_row (outL (F := F) c))))
  iexact H

theorem acc_split (c : Dev nD) : lent c (Tl.whole main_v1_1) ⊢ (byRow (accL (F := F) c) : sProp 𝕄) := by
  refine BIBase.Entails.trans (lent_has c (Tl.whole main_v1_1)) ?_
  iintro ⟨%v, H⟩
  have h : (has c (Tl.whole main_v1_1) fullShare v : sProp 𝕄) ⊢ BI.bigSep Finset.univ fun t => owns (c : Thread nD τ) ((Memref.whole main_v1_1).slice (tileR t) (fun _ => rfl)) fullShare (fun j => v ((tileR t).emb j)) :=
    owns_rects (c : Thread nD τ) (Memref.whole main_v1_1) fullShare tileR (fun _ _ => rfl) tileR_disj tileR_cover v
  iapply ((h.trans (bigSep_mono fun t _ => show _ ⊢ accL c t.1 t.2 from has_lent c (accT t.1 t.2) _)).trans (Entails.of_eq (by_row (accL (F := F) c))))
  iexact H

/-- The eight halves of the buffer of quantized tiles, a direction at a time, from a device's own row on. -/
abbrev halves (c : Dev nD) : sProp 𝕄 :=
  iprop((lent c (qH (adv c 0 0) 0) ∗ lent c (qH (adv c 0 1) 0) ∗ lent c (qH (adv c 0 2) 0) ∗ lent c (qH (adv c 0 3) 0))
    ∗ lent c (qH (adv c 1 0) 1) ∗ lent c (qH (adv c 1 1) 1) ∗ lent c (qH (adv c 1 2) 1) ∗ lent c (qH (adv c 1 3) 1))

def halfOrder (c : Fin 4) : List (Fin 4 × Fin 2) := [(adv c 0 0, 0), (adv c 0 1, 0), (adv c 0 2, 0), (adv c 0 3, 0), (adv c 1 0, 1), (adv c 1 1, 1), (adv c 1 2, 1), (adv c 1 3, 1)]
theorem halfOrder_all : ∀ c : Fin 4, (Finset.univ : Finset (Fin 4 × Fin 2)) = (halfOrder c).toFinset := by decide
theorem halfOrder_nodup : ∀ c : Fin 4, (halfOrder c).Nodup := by decide

theorem q_split (c : Dev nD) : lent c (Tl.whole main_v1_4) ⊢ (halves (F := F) c : sProp 𝕄) := by
  refine BIBase.Entails.trans (lent_has c (Tl.whole main_v1_4)) ?_
  iintro ⟨%v, H⟩
  have h : (has c (Tl.whole main_v1_4) fullShare v : sProp 𝕄) ⊢ BI.bigSep Finset.univ fun t => owns (c : Thread nD τ) ((Memref.whole main_v1_4).slice (halfR t) (fun _ => rfl)) fullShare (fun j => v ((halfR t).emb j)) :=
    owns_rects (c : Thread nD τ) (Memref.whole main_v1_4) fullShare halfR (fun _ _ => rfl) halfR_disj halfR_cover v
  have h2 : (BI.bigSep Finset.univ fun t : Fin 4 × Fin 2 => (lent c (qH t.1 t.2) : sProp 𝕄))
      = iprop(lent c (qH (adv c 0 0) 0) ∗ lent c (qH (adv c 0 1) 0) ∗ lent c (qH (adv c 0 2) 0) ∗ lent c (qH (adv c 0 3) 0)
    ∗ lent c (qH (adv c 1 0) 1) ∗ lent c (qH (adv c 1 1) 1) ∗ lent c (qH (adv c 1 2) 1) ∗ lent c (qH (adv c 1 3) 1)) :=
    bigSep_univ_eq_bigSepL (halfOrder c) (halfOrder_all c) (halfOrder_nodup c) _
  ihave H := ((h.trans (bigSep_mono fun t _ => show _ ⊢ (lent c (qH t.1 t.2) : sProp 𝕄) from has_lent c (qH t.1 t.2) _)).trans (Entails.of_eq h2)) $$ H
  icases H with ⟨A, B, C, E, A', B', C', E'⟩
  unfold halves
  iframe

/-- The six slots of a receive buffer. -/
abbrev slots (c : Dev nD) (d : Fin 2) : sProp 𝕄 :=
  iprop(lent c (slot d 0 0) ∗ lent c (slot d 0 1) ∗ lent c (slot d 1 0) ∗ lent c (slot d 1 1) ∗ lent c (slot d 2 0) ∗ lent c (slot d 2 1))

theorem six (Φ : Fin 3 × Fin 2 → sProp 𝕄) : bigSep Finset.univ Φ = iprop(Φ (0, 0) ∗ Φ (0, 1) ∗ Φ (1, 0) ∗ Φ (1, 1) ∗ Φ (2, 0) ∗ Φ (2, 1)) :=
  bigSep_univ_eq_bigSepL [(0, 0), (0, 1), (1, 0), (1, 1), (2, 0), (2, 1)] (by decide) (by decide) Φ

theorem slots0 (c : Dev nD) : lent c (Tl.whole main_v1_2) ⊢ (slots (F := F) c 0 : sProp 𝕄) := by
  refine BIBase.Entails.trans (lent_has c (Tl.whole main_v1_2)) ?_
  iintro ⟨%v, H⟩
  have h : (has c (Tl.whole main_v1_2) fullShare v : sProp 𝕄) ⊢ BI.bigSep Finset.univ fun t => owns (c : Thread nD τ) ((Memref.whole main_v1_2).slice (slotR t) (fun _ => rfl)) fullShare (fun j => v ((slotR t).emb j)) :=
    owns_rects (c : Thread nD τ) (Memref.whole main_v1_2) fullShare slotR (fun _ _ => rfl) slotR_disj slotR_cover v
  have h1 (t : Fin 3 × Fin 2) : owns (c : Thread nD τ) ((Memref.whole main_v1_2).slice (slotR t) (fun _ => rfl)) fullShare (fun j => v ((slotR t).emb j)) ⊢ (lent c (slot 0 t.1 t.2) : sProp 𝕄) := by
    unfold owns lent anyAt
    iintro ⟨%f, -, H⟩
    iexists f
    rw [show (slot 0 t.1 t.2).m.view.set = ((Memref.whole main_v1_2).slice (slotR t) (fun _ => rfl)).view.set from View.set_reshape _ _]
    iexact H
  iapply ((h.trans (bigSep_mono fun t _ => h1 t)).trans (Entails.of_eq (six fun t => lent c (slot 0 t.1 t.2))))
  iexact H

theorem slots1 (c : Dev nD) : lent c (Tl.whole main_v1_3) ⊢ (slots (F := F) c 1 : sProp 𝕄) := by
  refine BIBase.Entails.trans (lent_has c (Tl.whole main_v1_3)) ?_
  iintro ⟨%v, H⟩
  have h : (has c (Tl.whole main_v1_3) fullShare v : sProp 𝕄) ⊢ BI.bigSep Finset.univ fun t => owns (c : Thread nD τ) ((Memref.whole main_v1_3).slice (slotR t) (fun _ => rfl)) fullShare (fun j => v ((slotR t).emb j)) :=
    owns_rects (c : Thread nD τ) (Memref.whole main_v1_3) fullShare slotR (fun _ _ => rfl) slotR_disj slotR_cover v
  have h1 (t : Fin 3 × Fin 2) : owns (c : Thread nD τ) ((Memref.whole main_v1_3).slice (slotR t) (fun _ => rfl)) fullShare (fun j => v ((slotR t).emb j)) ⊢ (lent c (slot 1 t.1 t.2) : sProp 𝕄) := by
    unfold owns lent anyAt
    iintro ⟨%f, -, H⟩
    iexists f
    rw [show (slot 1 t.1 t.2).m.view.set = ((Memref.whole main_v1_3).slice (slotR t) (fun _ => rfl)).view.set from View.set_reshape _ _]
    iexact H
  iapply ((h.trans (bigSep_mono fun t _ => h1 t)).trans (Entails.of_eq (six fun t => lent c (slot 1 t.1 t.2))))
  iexact H

/-- The loans of the two receive buffers and of the foreign rows of the quantized tiles, and a device's own row of them. -/
theorem loans_split (c : Dev nD) :
    iprop(lent c (Tl.whole main_v1_2) ∗ lent c (Tl.whole main_v1_3) ∗ lent c (Tl.whole main_v1_4))
      ⊢ (iprop(loan0 c ∗ loan1 c ∗ lanes fun d p => lent c (qT c (col d p))) : sProp 𝕄) := by
  unfold loan0 loan1 lanes
  iintro ⟨H2, H3, H4⟩
  ihave ⟨A0, A1, A2, A3, A4, A5⟩ := (slots0 c) $$ H2
  ihave ⟨B0, B1, B2, B3, B4, B5⟩ := (slots1 c) $$ H3
  ihave ⟨⟨Q0, Q1, Q2, Q3⟩, R0, R1, R2, R3⟩ := (q_split c) $$ H4
  ihave ⟨X0, X1⟩ := (lent_half_split c (adv c 0 0) 0) $$ Q0
  ihave ⟨Y0, Y1⟩ := (lent_half_split c (adv c 1 0) 1) $$ R0
  rw [adv_zero, adv_zero]
  iframe

end Cert.KernelIdeal.Work

end
-- ==== Proof.ProgramEq.lean ====
/-
  The printed body of the kernel is the structured program.
-/
module

public import proofs.«01_k».proof.Proof.Program

@[expose] public section

set_option maxRecDepth 65536

noncomputable section

namespace Cert.KernelIdeal.Work

open Idealize.ShloMosaic Idealize.SL.Sem
open Cert.KernelIdeal.Gen

variable {F : FTy → Type} [FloatOps F]

/-- Two programs that make the same request and go on alike are equal. -/
theorem op_congr {E : Type → Type} {α β : Type} {e e' : E β} {k k' : β → Prog E α} (he : e = e') (hk : ∀ x, k x = k' x) :
    Prog.op e k = Prog.op e' k' := by
  rw [he, funext hk]

/-- Sequencing, written out: the same equations as the library's, in both spellings of a sequence. -/
theorem seq_op {E : Type → Type} {α β γ : Type} (e : E β) (k : β → Prog E α) (f : α → Prog E γ) : Prog.op e k >>= f = Prog.op e (fun x => k x >>= f) :=
  Eq.trans (Prog.bind_op e k f) (Eq.refl _)
theorem seq_ret {E : Type → Type} {α β : Type} (a : α) (f : α → Prog E β) : Prog.ret a >>= f = f a := Eq.trans (Prog.bind_ret a f) (Eq.refl _)
theorem seq_spell {E : Type → Type} {α β : Type} (p : Prog E α) (f : α → Prog E β) : p.bind f = p >>= f := Eq.trans (Eq.refl (p.bind f)) (Eq.refl _)
theorem seq_pure {E : Type → Type} {α : Type} (a : α) : (pure a : Prog E α) = Prog.ret a := Eq.trans (Prog.pure_eq_ret a) (Eq.refl _)
theorem seq_lift {E : Type → Type} {α β : Type} (e : E α) (f : α → Prog E β) : Prog.lift e >>= f = Prog.op e f := Eq.trans (Prog.bind_lift e f) (Eq.refl _)
theorem seq_one {E : Type → Type} {α : Type} (e : E α) : Prog.lift e = Prog.op e Prog.ret := Eq.trans (Eq.refl (Prog.lift e)) (Eq.refl _)

set_option backward.isDefEq.respectTransparency false in
/-- The printed body, on the arrays and scratch it is called with, is the structured program. -/
theorem body_eq (X : Memref sig .tc .vmem S4096x1024 .bf16) (hX : X.IsWhole) (W : Memref sig .tc .vmem S1024x8192 .bf16) (hW : W.IsWhole) :
    cc0_body (F := F) X hX W hW (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 cc0_scratch15
      = kernel X W := by
  rw [cc0_body_eq_skeleton]
  unfold cc0_body_skel
  rewrite [k0_part60_eq_skeleton]
  unfold k0_part60_skel
  rewrite [k0_part1_eq_skeleton, k0_part2_eq_skeleton, k0_part3_eq_skeleton, k0_part4_eq_skeleton, k0_part5_eq_skeleton, k0_part6_eq_skeleton, k0_part7_eq_skeleton, k0_part8_eq_skeleton,
    k0_part9_eq_skeleton, k0_part10_eq_skeleton, k0_part11_eq_skeleton, k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton, k0_part31_eq_skeleton, k0_part32_eq_skeleton,
    k0_part33_eq_skeleton, k0_part34_eq_skeleton, k0_part35_eq_skeleton, k0_part36_eq_skeleton, k0_part37_eq_skeleton, k0_part38_eq_skeleton, k0_part39_eq_skeleton, k0_part40_eq_skeleton,
    k0_part41_eq_skeleton, k0_part42_eq_skeleton, k0_part43_eq_skeleton, k0_part44_eq_skeleton, k0_part45_eq_skeleton, k0_part46_eq_skeleton, k0_part47_eq_skeleton, k0_part48_eq_skeleton,
    k0_part49_eq_skeleton, k0_part50_eq_skeleton, k0_part51_eq_skeleton, k0_part52_eq_skeleton, k0_part53_eq_skeleton, k0_part54_eq_skeleton, k0_part55_eq_skeleton, k0_part56_eq_skeleton,
    k0_part57_eq_skeleton, k0_part58_eq_skeleton, k0_part59_eq_skeleton]
  iterate 100 (try refine op_congr rfl fun _ => ?_)
  as_aux_lemma =>
   iterate 100 (try refine op_congr rfl fun _ => ?_)
   as_aux_lemma =>
    iterate 58 (refine op_congr rfl fun _ => ?_)
    dsimp only
    rename_i y79 y78 y77 y76 y75 y74 y73 y72 y71 y70 y69 y68 y67 y66 y65 y64 y63 y62 y61 y60 y59 y58 y57 y56 y55 y54 y53 y52 y51 y50 y49 y48 y47 y46 y45 y44 y43 y42 y41 y40 y39 y38 y37 y36 y35 y34 y33 y32 y31 y30 y29 y28 y27 y26 y25 y24 y23 y22 y21 y20 y19 y18 y17 y16 y15 y14 y13 y12 y11 y10 y9 y8 y7 y6 y5 y4 y3 y2 y1 y0
    generalize k0_pay40 (k0_pay37 (k0_pay34 (k0_pay30 y50 y49) y39 y38) (k0_pay36 y28 y27)) y17 y16 = v
    simp only [seq_spell, seq_op, seq_ret, seq_pure, seq_lift, seq_one, Prog.bind_assoc, k0_part37_skel, k0_part38_skel, k0_part39_skel, k0_part40_skel, k0_part41_skel, k0_part42_skel, k0_part43_skel, k0_part44_skel, k0_part45_skel, k0_part46_skel, k0_part47_skel, k0_part48_skel, k0_part49_skel, k0_part50_skel, k0_part51_skel, k0_part52_skel, k0_part53_skel, k0_part54_skel, k0_part55_skel, k0_part56_skel, k0_part57_skel, k0_part58_skel, k0_part59_skel, maxRing, maxStep, sendRow, sendTo, waitOn, quant, copyIn, copyOut, getT, putQ, putB, gather, gatherSend, gatherWait, dequantRow, dequant]
    as_aux_lemma =>
     iterate 80 (refine op_congr rfl fun _ => ?_)
     as_aux_lemma =>
      iterate 78 (try refine op_congr rfl fun _ => ?_)
      rfl

end Cert.KernelIdeal.Work

end
-- ==== Proof.Body.lean ====
module

public import proofs.«01_k».proof.Proof.Split
public import proofs.«01_k».proof.Proof.ProgramEq
public import proofs.«01_k».proof.Proof.Gen.KernelIdeal.Points

@[expose] public section

set_option maxRecDepth 16384

noncomputable section

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

open Idealize.ShloMosaic.Pipeline (Dat Cfg Window BodyObligation)

variable (m : (ℓ : Loc nD τ sig) → Buf (Elt F) ℓ)

/-- The operands' blocks, as the launch stages them. -/
def inp : Inp F := ⟨fun c => (win0_0.blk t0_0).view.read (Elt F) (m ((c : Thread nD τ).loc main_arg0)), fun c => (win0_1.blk t0_0).view.read (Elt F) (m ((c : Thread nD τ).loc main_arg1))⟩

/-! ## What a device starts from and ends with -/

/-- A device's tokens, positions and local counters. -/
def ghost (c : Dev nD) : sProp 𝕄 :=
  iprop((dutyTok ER (barC (toward c 1)) 0 0 ∗ dutyTok ER (barC (toward c 0)) 0 1) ∗ atPos ER (barC c) 0 ∅ 0
    ∗ bigSep Finset.univ (sk' (F := F) c) ∗ (bigSep Finset.univ fun t => atPos ER (rcvC c t) 0 ∅ 0) ∗ zero c (lsem 0) ∗ zero c (lsem 1))

/-- The credits of its receipts. -/
def credits (c : Dev nD) : sProp 𝕄 :=
  iprop(cred (tallyAt (barC c) () 2) ∗ bigSep Finset.univ fun t : Tr => cred (tallyAt (rcvC c t) () t.size))

/-- Its arrays in high-bandwidth memory. -/
def arrays (c : Dev nD) : sProp 𝕄 :=
  iprop(lent c (Tl.whole main_v1_0) ∗ lent c (Tl.whole main_v1_1) ∗ lent c (Tl.whole main_v1_2) ∗ lent c (Tl.whole main_v1_3) ∗ lent c (Tl.whole main_v1_4))

/-- Its scratch. -/
def scratch (c : Dev nD) : sProp 𝕄 :=
  iprop(lent c ta ∗ lent c tb ∗ lent c tq ∗ lent c amSrc ∗ lent c (Tl.whole cc0_scratch4))

def start (c : Dev nD) : sProp 𝕄 := iprop((∃ K, recs (inp m) K ∗ ghost c) ∗ credits c ∗ arrays c)

def Φ₀ (c : Dev nD) : sProp 𝕄 := iprop(start m c ∗ scratch c)

def Φ₁ (c : Dev nD) : sProp 𝕄 :=
  iprop((has c (Tl.whole main_v1_0) fullShare (result (inp m) c) ∗ semVal (barC c) 0) ∗ (zero c (lsem 0) ∗ zero c (lsem 1) ∗ bigSep Finset.univ (zz (F := F) c)) ∗ scratch c)

theorem work_in (c : Dev nD) :
    iprop(ghost c ∗ credits c ∗ arrays c ∗ scratch c ∗ (∃ W, owes (c : Thread nD τ) (O₀ c) W) ∗ has c stX fullShare ((inp m).x c) ∗ has c stW fullShare ((inp m).w c))
      ⊢ workIn (inp m) c := by
  have hRk : iprop((bigSep Finset.univ fun t : Tr => cred (tallyAt (rcvC c t) () t.size)) ∗ (bigSep Finset.univ fun t => atPos ER (rcvC c t) 0 ∅ 0)) ⊢ (bigSep Finset.univ (Rk (F := F) c) : sProp 𝕄) := by
    rw [← bigSep_sep']
    exact bigSep_mono fun t _ => BI.Entails.refl _
  unfold ghost credits arrays scratch workIn entryIn
  iintro ⟨⟨⟨T1, T0⟩, PB, HK, PR, Z0, Z1⟩, ⟨CB, CR⟩, ⟨A0, A1, A2, A3, A4⟩, ⟨Ha, Hb, Hq, Hs, H4⟩, HO, HX, HW⟩
  ihave A0 := (out_split c) $$ A0
  ihave A1 := (acc_split c) $$ A1
  ihave ⟨L0, L1, Q⟩ := (loans_split c) $$ [A2 A3 A4]
  · iframe
  ihave HR := hRk $$ [CR PR]
  · iframe
  isplitl [H4 L0 L1 HO T1 T0 CB PB]
  · iframe
  isplitl [HK]; · iexact HK
  isplitl [HR]; · iexact HR
  isplitl [Ha Hb Hq Z0 Z1]; · iframe
  isplitl [Hs]; · iexact Hs
  isplitl [HX]; · iexact HX
  isplitl [HW]; · iexact HW
  isplitl [A1]; · iexact A1
  isplitl [A0]; · iexact A0
  iexact Q

theorem work_out (c : Dev nD) : workOut (inp m) c
    ⊢ iprop(Φ₁ m c ∗ (∃ W, owes (c : Thread nD τ) 0 W) ∗ has c stX fullShare ((inp m).x c) ∗ has c stW fullShare ((inp m).w c)) := by
  unfold workOut Φ₁ scratch
  iintro ⟨⟨Ha, Hb, Hq, Z0, Z1⟩, Hs, H4, HX, HW, HB, HZ, HO, HV⟩
  isplitl [Ha Hb Hq Z0 Z1 Hs H4 HB HZ HV]
  · isplitl [HV HB]; · iframe
    isplitl [Z0 Z1 HZ]; · iframe
    iframe
  isplitl [HO]; · iexact HO
  isplitl [HX] <;> iassumption

/-! ## The body -/

def dats (_ : Fin 1) (c : Dev nD) : Dat τ (Elt F) Unit ℕ UU ℕ cfg0 c where
  A w := m ((cfg0.win w).arr.view.loc (c : Thread nD τ))
  after w _ := match w with
    | ⟨0, _⟩ => (inp m).x c
    | ⟨1, _⟩ => (inp m).w c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre (c : Dev nD) : sProp 𝕄 :=
  iprop(Φ₀ m c ∗ (dats m 0 c).owesAt () t0_0.castSucc
    ∗ (∃ d, has c stX fullShare ((dats m 0 c).before (0 : Fin 2) t0_0 d))
    ∗ (∃ d, has c stW fullShare ((dats m 0 c).before (1 : Fin 2) t0_0 d)))

def bodyPost (c : Dev nD) : sProp 𝕄 :=
  iprop(Φ₁ m c ∗ (dats m 0 c).owesAt () t0_0.succ ∗ has c stX fullShare ((inp m).x c) ∗ has c stW fullShare ((inp m).w c))

theorem before_x (c : Dev nD) (d) : (dats m 0 c).before (0 : Fin 2) t0_0 d = (inp m).x c := by
  unfold Dat.before; rw [if_pos (fetch0_0 t0_0)]; rfl
theorem before_w (c : Dev nD) (d) : (dats m 0 c).before (1 : Fin 2) t0_0 d = (inp m).w c := by
  unfold Dat.before; rw [if_pos (fetch0_1 t0_0)]; rfl

theorem sound_body (c : Dev nD) : bodyPre m c ⊢ WP (F := F) c (kernel stX.m stW.m) fun _ => bodyPost m c := by
  unfold bodyPre Φ₀ start kernel Dat.owesAt Pipeline.owesWithin
  iintro ⟨⟨⟨⟨%K, #HR, HG⟩, HC, HA⟩, HS⟩, ⟨%W, %hW, HO⟩, ⟨%d0, HX⟩, ⟨%d1, HW⟩⟩
  rw [show (dats m 0 c).owed t0_0.castSucc = O₀ c from rfl, before_x, before_w]
  simp only [Prog.lift, Prog.bind_op, Prog.bind_ret, Prog.pure_eq_ret, wp_deviceId]
  ihave HIn := (work_in m c) $$ [HG HC HA HS HO HX HW]
  · isplitl [HG]; · iexact HG
    isplitl [HC]; · iexact HC
    isplitl [HA]; · iexact HA
    isplitl [HS]; · iexact HS
    isplitl [HO]; · iexists W; iexact HO
    isplitl [HX] <;> iassumption
  have hw : iprop(recs (inp m) K ∗ workIn (inp m) c) ⊢ WP (F := F) c (work stX.m stW.m c) fun _ => bodyPost m c := by
    refine BIBase.Entails.trans (work_spec (D := inp m) (K := K) c) (wp_mono _ _ _ fun _ => ?_)
    refine BIBase.Entails.trans (work_out m c) ?_
    unfold bodyPost Dat.owesAt Pipeline.owesWithin
    iintro ⟨HP, ⟨%W, HO⟩, HX, HW⟩
    isplitl [HP]; · iexact HP
    isplitl [HO]
    · rw [show (dats m 0 c).owed t0_0.succ = 0 from rfl]
      iexists W
      isplitr; · ipureintro; exact fun _ _ => Or.inl trivial
      iexact HO
    isplitl [HX] <;> iassumption
  iapply hw
  isplitr; · iexact HR
  iexact HIn

set_option maxRecDepth 65536 in
theorem body_obligation (c : Dev nD) : BodyObligation (dats (F := F) m 0 c) (defs₀ (F := F)) 𝒱₀ () Set.univ := fun t => by
  rw [fin_N0 t]
  rw [bigSep_W0, bigSep_W0]
  show bodyPre m c ⊢ WP (F := F) c (cc0_body (F := F) stX.m (Memref.isWhole_whole _) stW.m (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 cc0_scratch15) (fun _ => bodyPost m c)
  rw [body_eq]
  exact sound_body m c

end Cert.KernelIdeal.Work

end
-- ==== Proof.Tokens.lean ====
module

public import proofs.«01_k».proof.Proof.Body

@[expose] public section

set_option maxRecDepth 16384

noncomputable section

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (D : Inp F)

/-! ## Families over the cells -/

theorem opt_split {I : Type} [Fintype I] [DecidableEq I] (Φ : Option I → sProp 𝕄) :
    bigSep Finset.univ Φ = iprop(Φ none ∗ bigSep Finset.univ fun i => Φ (some i)) := by
  have h : (Finset.univ : Finset (Option I)) = insert none (Finset.univ.map ⟨some, Option.some_injective I⟩) := by
    ext x
    cases x <;> simp
  rw [h, bigSep_insert (by simp), bigSep_map]
  rfl

theorem sides_split (Φ : Bool × Tr → sProp 𝕄) :
    bigSep Finset.univ Φ = iprop((bigSep Finset.univ fun t => Φ (false, t)) ∗ bigSep Finset.univ fun t => Φ (true, t)) := by
  rw [bigSep_univ_prod, bigSep_univ_eq_bigSepL [false, true] (by decide) (by decide)]
  rfl

/-! ## The kernel's own semaphores -/

/-- The kernel's own semaphores: the two of its local copies, and two for every transfer. -/
def osem : Option (Option (Bool × Tr)) → SemLoc sig
  | none => .dma (lsem 0)
  | some none => .dma (lsem 1)
  | some (some k) => csem (some k)

theorem ownSemFacts : Pipeline.OwnSemFacts cfg0.spec osem := by decide +kernel

theorem ownSems0_eq (c : Dev nD) : (Pipeline.ownSems0 (Ix := Unit) (Name := ℕ) (U := UU) (Lvl := ℕ) (Val := Elt F) (τ := τ) osem c : sProp 𝕄)
    = iprop(zero c (lsem 0) ∗ zero c (lsem 1) ∗ bigSep Finset.univ fun k : Bool × Tr => semVal (kcell (c, some k)) 0) := by
  unfold Pipeline.ownSems0
  rw [opt_split, opt_split]
  rfl

theorem unscopedSems0_eq (c : Dev nD) : (unscopedSems0 c : sProp 𝕄) = semVal (barC c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((zero c (lsem 0) ∗ zero c (lsem 1)) ∗ bigSep Finset.univ fun k : Cl => semVal (kcell (c, k)) 0) : sProp 𝕄) := by
  rw [ownSems0_eq, unscopedSems0_eq, opt_split]
  iintro ⟨⟨H0, H1, HS⟩, HB⟩
  iframe

theorem sems0_back (c : Dev nD) :
    iprop((zero c (lsem 0) ∗ zero c (lsem 1) ∗ bigSep Finset.univ (zz (F := F) c)) ∗ semVal (barC c) 0)
      ⊢ (iprop(unscopedSems0 c ∗ Pipeline.ownSems0 (Ix := Unit) (Name := ℕ) (U := UU) (Lvl := ℕ) (Val := Elt F) (τ := τ) osem c) : sProp 𝕄) := by
  rw [ownSems0_eq, unscopedSems0_eq, sides_split]
  have h : (bigSep Finset.univ (zz (F := F) c) : sProp 𝕄) ⊢ iprop((bigSep Finset.univ fun t => semVal (kcell (c, some (false, t))) 0) ∗ bigSep Finset.univ fun t => semVal (kcell (c, some (true, t))) 0) := by
    rw [← bigSep_sep']
    exact bigSep_mono fun t _ => BI.Entails.refl _
  iintro ⟨⟨H0, H1, HZ⟩, HB⟩
  ihave ⟨A, B⟩ := h $$ HZ
  iframe

/-! ## The cells, and the tokens of their duties -/

def allCells : Finset (GSem nD τ sig) := Finset.univ.map ⟨kcell, kcell_inj⟩

/-- The tokens: two for a barrier, one for every other cell. -/
def tokOf (cj : Dev nD × Option (Option (Bool × Tr))) : GSem nD τ sig × ℕ × Fin 2 := match cj.2 with
  | none => (barC cj.1, 0, 0)
  | some none => (barC cj.1, 0, 1)
  | some (some k) => (kcell (cj.1, some k), 0, 0)

theorem tokOf_inj : Function.Injective tokOf := by
  rintro ⟨c, j⟩ ⟨c', j'⟩ h
  rcases j with _ | _ | k <;> rcases j' with _ | _ | k' <;> dsimp only [tokOf] at h
  · have := kcell_inj (Prod.ext_iff.mp h).1
    cases this; rfl
  · exact absurd (congrArg (fun x => x.2.2) h) (show ¬ ((0 : Fin 2) = 1) from by decide)
  · have := kcell_inj (Prod.ext_iff.mp h).1
    cases this
  · exact absurd (congrArg (fun x => x.2.2) h) (show ¬ ((1 : Fin 2) = 0) from by decide)
  · have := kcell_inj (Prod.ext_iff.mp h).1
    cases this; rfl
  · have := kcell_inj (Prod.ext_iff.mp h).1
    cases this
  · have := kcell_inj (Prod.ext_iff.mp h).1
    cases this
  · have := kcell_inj (Prod.ext_iff.mp h).1
    cases this
  · have := kcell_inj (Prod.ext_iff.mp h).1
    cases this; rfl

def allToks : Finset (GSem nD τ sig × ℕ × Fin 2) := Finset.univ.map ⟨tokOf, tokOf_inj⟩

def u₀ : UU := (initOf (Pipeline.cells cfgs cellOf_inj) (Pipeline.launchToks cfgs cellOf_inj), (initOf allCells allToks, 1))

/-- The tokens of device `c`'s own cells. -/
def toks (c : Dev nD) : sProp 𝕄 :=
  iprop(dutyTok ER (barC c) 0 0 ∗ dutyTok ER (barC c) 0 1 ∗ (bigSep Finset.univ fun t => dutyTok ER (sndC c t) 0 0) ∗ bigSep Finset.univ fun t => dutyTok ER (rcvC c t) 0 0)

/-- What the launch deals device `c`. -/
def G (c : Dev nD) : sProp 𝕄 :=
  iprop((bigSep Finset.univ fun k : Cl => roundState ER (Rd D) (kcell (c, k)) 0)
    ∗ (bigSep Finset.univ fun k : Cl => iprop(atPos ER (kcell (c, k)) 0 ∅ 0 ∗ reached ER (kcell (c, k)) 0)) ∗ toks c)

theorem fund_all : BI.own (ER (initOf allCells allToks)) ⊢ (|==> bigSep Finset.univ (G D) : sProp 𝕄) := by
  have hX (Φ : GSem nD τ sig → sProp 𝕄) : bigSep allCells Φ = bigSep Finset.univ fun c : Dev nD => bigSep Finset.univ fun k : Cl => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [opt_split, opt_split, sides_split]; rfl
  iintro HX
  imod (Rounds.fund ER (Rd D) allCells allToks) $$ HX with ⟨Hst, Hr, Hat, Htok⟩
  imodintro
  ihave Hst' := (Entails.of_eq (hX fun g => roundState ER (Rd D) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- What allocating the cells' invariants leaves device `c`. -/
def alloced (c : Dev nD) : sProp 𝕄 :=
  iprop((bigSep Finset.univ fun k : Cl => iprop(∃ κ : ℕ, cellInv ER (Rd D) κ (kcell (c, k))))
    ∗ (bigSep Finset.univ fun k : Cl => iprop(atPos ER (kcell (c, k)) 0 ∅ 0 ∗ reached ER (kcell (c, k)) 0)) ∗ toks c ∗ zero c (lsem 0) ∗ zero c (lsem 1))

theorem core_alloc (c : Dev nD) :
    iprop(Pipeline.ownSems0 (Ix := Unit) (Name := ℕ) (U := UU) (Lvl := ℕ) (Val := Elt F) (τ := τ) osem c ∗ unscopedSems0 c ∗ G D c)
      ⊢ |={Set.univ}=> alloced D c := by
  unfold G alloced
  iintro ⟨Hos, Hus, Hst, Hat, Htok⟩
  ihave ⟨Hl, Hv⟩ := (sems0_eq (F := F) c) $$ [Hos Hus]
  · isplitl [Hos] <;> iassumption
  imod (show iprop((bigSep Finset.univ fun k : Cl => semVal (kcell (c, k)) 0) ∗ bigSep Finset.univ fun k : Cl => roundState ER (Rd D) (kcell (c, k)) 0)
      ⊢ (|={Set.univ}=> bigSep Finset.univ fun k : Cl => iprop(∃ κ : ℕ, cellInv ER (Rd D) κ (kcell (c, k))) : sProp 𝕄) from by
        rw [← bigSep_sep']
        exact (bigSep_mono fun k _ => (Rounds.body_intro ER (Rd D) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-! ## Dealing the tokens to those who pay -/

/-- Stepping to a neighbour, as a permutation of the devices. -/
def step (d : Fin 2) : Dev nD ≃ Dev nD where
  toFun c := toward c d
  invFun c := toward c (1 - d)
  left_inv := by have h : ∀ (d : Fin 2) (c : Fin 4), toward (toward c d) (1 - d) = c := by decide +kernel
                 exact h d
  right_inv := fun c => toward_turn c d

/-- The device and the transfer whose receipt a transfer of a device is. -/
def across : Dev nD × Tr ≃ Dev nD × Tr where
  toFun x := (dest x.1 x.2, x.2)
  invFun x := (toward x.1 (1 - x.2.dir), x.2)
  left_inv := fun x => Prod.ext ((step x.2.dir).left_inv x.1) rfl
  right_inv := fun x => Prod.ext ((step x.2.dir).right_inv x.1) rfl

/-- The tokens of the duties device `c` pays. -/
def payToks (c : Dev nD) : sProp 𝕄 :=
  iprop(dutyTok ER (barC (toward c 1)) 0 0 ∗ dutyTok ER (barC (toward c 0)) 0 1 ∗ (bigSep Finset.univ fun t => dutyTok ER (sndC c t) 0 0) ∗ bigSep Finset.univ fun t => dutyTok ER (rcvC (dest c t) t) 0 0)

theorem toks_around : (bigSep Finset.univ fun c : Dev nD => (toks c : sProp 𝕄)) ⊢ bigSep Finset.univ fun c : Dev nD => payToks c := by
  have hr : (bigSep Finset.univ fun c : Dev nD => bigSep Finset.univ fun t : Tr => (dutyTok ER (rcvC c t) 0 0 : sProp 𝕄)) = bigSep Finset.univ fun c : Dev nD => bigSep Finset.univ fun t : Tr => dutyTok ER (rcvC (dest c t) t) 0 0 := by
    rw [← bigSep_univ_prod (fun x : Dev nD × Tr => (dutyTok ER (rcvC x.1 x.2) 0 0 : sProp 𝕄)), bigSep_univ_equiv across, bigSep_univ_prod]
    rfl
  unfold toks payToks
  rw [bigSep_sep', bigSep_sep', bigSep_sep', bigSep_sep', bigSep_sep', bigSep_sep', hr,
    bigSep_univ_equiv (step 1) (fun c : Dev nD => (dutyTok ER (barC c) 0 0 : sProp 𝕄)),
    bigSep_univ_equiv (step 0) (fun c : Dev nD => (dutyTok ER (barC c) 0 1 : sProp 𝕄))]
  exact BI.Entails.refl _

/-- What everybody knows once the cells are set up. -/
def known (K : Dev nD × Cl → ℕ) : sProp 𝕄 :=
  iprop((bigSep Finset.univ fun ck => cellInv ER (Rd D) (K ck) (kcell ck)) ∗ bigSep Finset.univ fun ck => reached ER (kcell ck) 0)

instance known_persistent (K : Dev nD × Cl → ℕ) : BI.Persistent (known D K) := by unfold known; infer_instance

/-- What the launch hands device `c`. -/
def G' (c : Dev nD) : sProp 𝕄 := iprop(∃ K, known D K ∗ ghost c)

def linear (c : Dev nD) : sProp 𝕄 :=
  iprop((bigSep Finset.univ fun k : Cl => atPos ER (kcell (c, k)) 0 ∅ 0) ∗ payToks c ∗ zero c (lsem 0) ∗ zero c (lsem 1))

theorem ghost_intro (K : Dev nD × Cl → ℕ) (c : Dev nD) : iprop(known D K ∗ linear c) ⊢ G' D c := by
  have hsk : iprop((bigSep Finset.univ fun t => dutyTok ER (sndC c t) 0 0) ∗ (bigSep Finset.univ fun t => dutyTok ER (rcvC (dest c t) t) 0 0) ∗ bigSep Finset.univ fun t => atPos ER (sndC c t) 0 ∅ 0) ⊢ (bigSep Finset.univ (sk' (F := F) c) : sProp 𝕄) := by
    rw [← bigSep_sep', ← bigSep_sep']
    exact bigSep_mono fun t _ => BI.Entails.refl _
  unfold linear payToks G' ghost
  rw [opt_split, sides_split]
  iintro ⟨#HK, ⟨HB, HS, HR⟩, ⟨T1, T0, TS, TR⟩, Z0, Z1⟩
  iexists K
  isplitr; · iexact HK
  isplitl [T1 T0]; · isplitl [T1] <;> iassumption
  isplitl [HB]; · iexact HB
  isplitl [TS TR HS]
  · iapply hsk
    isplitl [TS]; · iexact TS
    isplitl [TR] <;> iassumption
  isplitl [HR]; · iexact HR
  isplitl [Z0] <;> iassumption

theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ (alloced D) : sProp 𝕄) ⊢ bigSep Finset.univ (G' D) := by
  have e : (bigSep Finset.univ (alloced D) : sProp 𝕄) = iprop((bigSep Finset.univ fun ck : Dev nD × Cl => iprop(∃ κ : ℕ, cellInv ER (Rd D) κ (kcell ck)))
      ∗ ((bigSep Finset.univ fun c : Dev nD => bigSep Finset.univ fun k : Cl => atPos ER (kcell (c, k)) 0 ∅ 0) ∗ bigSep Finset.univ fun ck : Dev nD × Cl => reached ER (kcell ck) 0)
      ∗ (bigSep Finset.univ fun c : Dev nD => toks c) ∗ bigSep Finset.univ fun c : Dev nD => iprop(zero c (lsem 0) ∗ zero c (lsem 1))) := by
    unfold alloced
    rw [bigSep_sep', bigSep_sep', bigSep_sep', ← bigSep_univ_prod (fun ck : Dev nD × Cl => iprop(∃ κ : ℕ, cellInv ER (Rd D) κ (kcell ck))),
      bigSep_congr (s := Finset.univ) (fun (c : Dev nD) _ => bigSep_sep' Finset.univ (fun k : Cl => (atPos ER (kcell (c, k)) 0 ∅ 0 : sProp 𝕄)) (fun k => reached ER (kcell (c, k)) 0)),
      bigSep_sep', ← bigSep_univ_prod (fun ck : Dev nD × Cl => (reached ER (kcell ck) 0 : sProp 𝕄))]
  rw [e]
  iintro ⟨HI, ⟨Hat, #HR⟩, Htok, HZ⟩
  ihave HK := (BI.bigSep_exists_pi Finset.univ (fun (ck : Dev nD × Cl) (κ : ℕ) => (cellInv ER (Rd D) κ (kcell ck) : sProp 𝕄))) $$ HI
  icases HK with ⟨%K, #HI⟩
  ihave Htk := (toks_around (F := F)) $$ Htok
  iapply (with_known (R := known D K) fun c _ => ghost_intro D K c)
  isplitr
  · unfold known; isplitl; · iexact HI
    iexact HR
  · have e2 : (bigSep Finset.univ fun c : Dev nD => (linear c : sProp 𝕄)) = iprop((bigSep Finset.univ fun c : Dev nD => bigSep Finset.univ fun k : Cl => atPos ER (kcell (c, k)) 0 ∅ 0)
        ∗ (bigSep Finset.univ fun c : Dev nD => payToks c) ∗ bigSep Finset.univ fun c : Dev nD => iprop(zero c (lsem 0) ∗ zero c (lsem 1))) := by
      unfold linear
      rw [bigSep_sep', bigSep_sep']
    iapply (Entails.of_eq e2.symm)
    isplitl [Hat]; · iexact Hat
    isplitl [Htk]; · iexact Htk
    iexact HZ

/-- Setting up every device's cells. -/
theorem glob : (bigSep Finset.univ fun c => iprop(Pipeline.ownSems0 (Ix := Unit) (Name := ℕ) (U := UU) (Lvl := ℕ) (Val := Elt F) (τ := τ) osem c ∗ unscopedSems0 c ∗ G D c) : sProp 𝕄)
    ⊢ |={Set.univ}=> bigSep Finset.univ (G' D) :=
  ((bigSep_mono fun c _ => core_alloc D c).trans (bigSep_fupd _ _)).trans (BI.fupd_mono (regroup D))

/-! ## The credit at launch -/

theorem snd_rcv_ne (a b : Dev nD × Cl) (h : a ≠ b) : kcell a ≠ kcell b := fun h' => h (kcell_inj h')

theorem owed_rcv (d c : Dev nD) (t : Tr) : O₀ d (rcvC c t) () = if d = toward c (1 - t.dir) then t.size else 0 := by
  unfold O₀
  rw [Pi.add_apply, Finsupp.add_apply, Pi.add_apply, Finsupp.add_apply, tallyAt_ne_cell (fun h => by cases kcell_inj h),
    tallyAt_ne_cell (fun h => by cases kcell_inj h), Finsupp.zero_apply, Nat.add_zero, Nat.add_zero]
  unfold debtO
  rw [Finset.sum_apply, Finsupp.finsetSum_apply, Finset.sum_eq_single t]
  · rw [tallyAt_apply]
    by_cases h : d = toward c (1 - t.dir)
    · subst h
      rw [if_pos rfl, if_pos ⟨by rw [show dest (toward c (1 - t.dir)) t = c from toward_turn c t.dir], rfl⟩]
    · rw [if_neg h, if_neg]
      rintro ⟨h1, -⟩
      have h2 : c = dest d t := by have := kcell_inj h1; exact (Prod.ext_iff.mp this).1
      exact h (by rw [h2]; exact ((step t.dir).left_inv d).symm)
  · intro t' _ hne
    rw [tallyAt_ne_cell, Finsupp.zero_apply]
    intro h1
    have := kcell_inj h1
    exact hne (by have h3 := (Prod.ext_iff.mp this).2; cases h3; rfl)
  · intro h
    exact absurd (Finset.mem_filter.mpr ⟨Finset.mem_univ t, Nat.zero_le t.ord⟩) h

theorem debt_bar (d c : Dev nD) : debtO d 0 (barC c) () = 0 := by
  by_contra h
  obtain ⟨t, -, h1⟩ := debtO_pos (Nat.pos_of_ne_zero h)
  cases kcell_inj h1

theorem owed_bar (d c : Dev nD) : O₀ d (barC c) () = (if d = toward c 1 then 1 else 0) + (if d = toward c 0 then 1 else 0) := by
  have h (d c : Dev nD) (i : Fin 2) : (tallyAt (barC (toward d i)) () 1 : CellTallies nD τ sig Unit) (barC c) () = if d = toward c (1 - i) then 1 else 0 := by
    rw [tallyAt_apply]
    by_cases h : d = toward c (1 - i)
    · subst h; rw [if_pos rfl, if_pos ⟨by rw [toward_turn], rfl⟩]
    · rw [if_neg h, if_neg]
      rintro ⟨h1, -⟩
      have h2 : c = toward d i := (Prod.ext_iff.mp (kcell_inj h1)).1
      exact h (by rw [h2]; exact ((step i).left_inv d).symm)
  unfold O₀
  rw [Pi.add_apply, Finsupp.add_apply, Pi.add_apply, Finsupp.add_apply, debt_bar, h, h, Nat.zero_add]
  rfl

theorem launch_bar (c : Dev nD) : tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (toward c 1) fun _ => 1, Finset.sum_ite_eq' Finset.univ (toward c 0) fun _ => 1, if_pos (Finset.mem_univ _), if_pos (Finset.mem_univ _)]

theorem launch_rcv (c : Dev nD) (t : Tr) : tallyOn (rcvC c t) (launchCredit (Pipeline.owing O₀) 0 (rcvC c t)) = (tallyAt (rcvC c t) () t.size : CellTallies nD τ sig Unit) := by
  unfold tallyAt; refine congrArg _ (Finsupp.ext fun u => ?_); cases u
  rw [Pipeline.launchCredit_owing, Finsupp.single_eq_same, Finset.sum_congr rfl fun d _ => owed_rcv d c t, Finset.sum_ite_eq' Finset.univ (toward c (1 - t.dir)) fun _ => t.size,
    if_pos (Finset.mem_univ _)]

/-- The cells a device is owed at. -/
def owedSem : Option Tr ↪ SemLoc sig := ⟨fun o => csem (o.map fun t => (true, t)), fun a b h => by
  have h' := csem_inj h
  cases a <;> cases b <;> first | rfl | (cases h'; rfl) | cases h'⟩

theorem creds (c : Dev nD) : (Pipeline.launchCred O₀ c : sProp 𝕄) ⊢ credits c := by
  unfold Pipeline.launchCred credits
  have h : (bigSep Finset.univ fun sm : SemLoc sig => (cred (tallyOn ((c.tc : Thread nD τ), sm) (launchCredit (Pipeline.owing O₀) 0 ((c.tc : Thread nD τ), sm))) : sProp 𝕄))
      ⊢ bigSep (Finset.univ.map owedSem) fun sm : SemLoc sig => cred (tallyOn ((c.tc : Thread nD τ), sm) (launchCredit (Pipeline.owing O₀) 0 ((c.tc : Thread nD τ), sm))) :=
    bigSep_subset (Finset.subset_univ _)
  refine BIBase.Entails.trans h ?_
  rw [bigSep_map, opt_split]
  refine sep_mono (Entails.of_eq ?_) (Entails.of_eq (bigSep_congr fun t _ => ?_))
  · exact congrArg cred (launch_bar c)
  · exact congrArg cred (launch_rcv c t)

/-! ## The staging copies' waits -/

theorem lv_other (c : Dev nD) (sm : SemLoc sig) (h : ∀ k : Cl, csem k ≠ sm) (u : Unit) : lv ((c : Thread nD τ), sm) u = 0 := by
  unfold lv
  have hr : role sm = none := by
    unfold role
    rw [dif_neg]
    rintro ⟨k, hk⟩
    exact h k hk
  rw [hr]

theorem owed_pos {c : Dev nD} {g : GSem nD τ sig} {u : Unit} (h : 0 < O₀ c g u) : (∃ d, g = barC (toward c d)) ∨ ∃ t : Tr, g = rcvC (dest c t) t := by
  unfold O₀ at h
  rw [Pi.add_apply, Finsupp.add_apply, Pi.add_apply, Finsupp.add_apply] at h
  by_cases h0 : g = barC (toward c 0)
  · exact .inl ⟨0, h0⟩
  by_cases h1 : g = barC (toward c 1)
  · exact .inl ⟨1, h1⟩
  rw [tallyAt_ne_cell h0, tallyAt_ne_cell h1, Finsupp.zero_apply, Nat.add_zero, Nat.add_zero] at h
  obtain ⟨t, -, ht⟩ := debtO_pos h
  exact .inr ⟨t, ht⟩

theorem stage_wait (c : Dev nD) (q : DmaSem sig) (hq : ∀ k : Cl, csem k ≠ .dma q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owed_pos hg with ⟨d, rfl⟩ | ⟨t, rfl⟩ <;> (rw [L_tc]; exact Finset.mem_singleton_self _))
      (fun p hp => by rw [Finset.mem_singleton.mp hp]; exact le_of_eq (lv_other c _ hq ()))
      (fun g u hg => by
        rcases owed_pos hg with ⟨d, rfl⟩ | ⟨t, rfl⟩
        · rw [lv_bar]; exact Nat.one_pos
        · rw [lv_rcv]; exact lev_pos t)
  · rw [MayWait_zero]; iintro -; iempintro

end Cert.KernelIdeal.Work

end
-- ==== Proof.Launch.lean ====
module

public import proofs.«01_k».proof.Proof.Tokens
public import Idealize.ShloMosaic.Lib.Pipeline.CollectiveSegs

@[expose] public section

set_option maxRecDepth 16384

noncomputable section

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The launch's side conditions -/

theorem arrays_eq (c : Dev nD) : (arrays c : sProp 𝕄) = iprop((∃ f : Buf (Elt F) ((c : Thread nD τ).loc main_v1_0), ((c : Thread nD τ).loc main_v1_0) ↦{fullShare} f)
    ∗ (∃ f : Buf (Elt F) ((c : Thread nD τ).loc main_v1_1), ((c : Thread nD τ).loc main_v1_1) ↦{fullShare} f) ∗ (∃ f : Buf (Elt F) ((c : Thread nD τ).loc main_v1_2), ((c : Thread nD τ).loc main_v1_2) ↦{fullShare} f)
    ∗ (∃ f : Buf (Elt F) ((c : Thread nD τ).loc main_v1_3), ((c : Thread nD τ).loc main_v1_3) ↦{fullShare} f) ∗ (∃ f : Buf (Elt F) ((c : Thread nD τ).loc main_v1_4), ((c : Thread nD τ).loc main_v1_4) ↦{fullShare} f)) := by
  unfold arrays; rw [lent_whole, lent_whole, lent_whole, lent_whole, lent_whole]

theorem scratch_eq (c : Dev nD) : (scratch c : sProp 𝕄) = Pipeline.scopedRest cfg0.spec c := by
  unfold scratch
  rw [show (lent c ta : sProp 𝕄) = _ from lent_whole c _, show (lent c tb : sProp 𝕄) = _ from lent_whole c _, show (lent c tq : sProp 𝕄) = _ from lent_whole c _,
    show (lent c amSrc : sProp 𝕄) = _ from lent_whole c _, lent_whole]
  exact (scopedRest0_eq c).symm

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inp m) c)
      ⊢ |={Set.univ}=> iprop(start m c ∗ emp) := by
  rw [Pipeline.unscopedRestP_none, unscopedRest0_eq]
  unfold start G'
  rw [arrays_eq]
  iintro ⟨⟨A0, A1, A2, A3, A4⟩, Hlev, Hcr, -, ⟨%K, HK, HG⟩⟩
  ihave Hc := (creds (F := F) c) $$ Hcr
  imodintro
  isplitl
  · isplitl [Hlev HK HG]
    · iexists K
      isplitl [HK Hlev]
      · unfold known recs
        icases HK with ⟨HI, HR⟩
        isplitl [HI]; · iexact HI
        isplitl [HR] <;> iassumption
      · iexact HG
    isplitl [Hc]; · iexact Hc
    isplitl [A0]; · iexists _; iexact A0
    isplitl [A1]; · iexists _; iexact A1
    isplitl [A2]; · iexists _; iexact A2
    isplitl [A3]; · iexists _; iexact A3
    iexists _; iexact A4
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, ← scratch_eq]
  unfold Φ₀
  iintro ⟨Hs, -, Hr⟩
  isplitl [Hs] <;> iassumption

/-- The result device `c` is left with. -/
def outcome (c : Dev nD) : Buf (Elt F) ((c : Thread nD τ).loc main_v1_0) := result (inp m) c

theorem phi1_exit (c : Dev nD) :
    (dats m 0 c).Φ (Fin.last cfg0.N) ⊢ iprop((unscopedSems0 c ∗ (((c : Thread nD τ).loc main_v1_0) ↦{fullShare} outcome m c)) ∗ Pipeline.ownSems0 osem c ∗ Pipeline.scopedRest cfg0.spec c) := by
  rw [show (dats m 0 c).Φ (Fin.last cfg0.N) = Φ₁ m c from rfl, ← scratch_eq]
  unfold Φ₁
  iintro ⟨⟨HV, HB⟩, HZ, HS⟩
  ihave ⟨HU, HO⟩ := (sems0_back (F := F) c) $$ [HZ HB]
  · isplitl [HZ] <;> iassumption
  ihave HV := (show has c (Tl.whole main_v1_0) fullShare (result (inp m) c) ⊢ (iprop(∃ f : Buf (Elt F) ((c : Thread nD τ).loc main_v1_0), ⌜f = outcome m c⌝ ∗ (((c : Thread nD τ).loc main_v1_0) ↦{fullShare} f)) : sProp 𝕄) from
    Entails.of_eq (owns_whole_eq c main_v1_0 _)) $$ HV
  icases HV with ⟨%f, %hf, HV⟩
  subst hf
  isplitl [HU HV]
  · isplitl [HU] <;> iassumption
  isplitl [HO] <;> iassumption

theorem share_eq (c : Dev nD) (w : Fin cfg0.W) : (dats m 0 c).share w = fullShare := by
  unfold Pipeline.Dat.share; split <;> rfl

theorem waits (c : Dev nD) : (levAts L lv : sProp 𝕄) ⊢ Pipeline.cellsWaits cfgs (dats m) () 0 c :=
  Pipeline.cellsWaits_intro cfgs (dats m) () 0 c fun w s t =>
    stage_wait c _ (by fin_cases w <;> fin_cases s <;> decide +kernel) _ (by
      rcases t with ⟨_ | _, ht⟩
      · exact Or.inl rfl
      · exact Or.inr rfl)

theorem own_cells : BI.own ((embR : Emb (UK × Counters) 𝕄) (initOf allCells allToks, (1 : Counters))) ⊢ (BI.own (ER (initOf allCells allToks)) : sProp 𝕄) := by
  iintro H
  ihave ⟨HX, -⟩ := (own_pair_emb embR (initOf allCells allToks) (1 : Counters)) $$ H
  iexact HX

/-! ## The run -/

/-- What the run leaves: every device's result, and the arrays it read unchanged. -/
def Left : PUnit × MemSt nD τ sig (Elt F) → Prop := fun r => ∀ c : Dev nD,
  r.2.mem ((c : Thread nD τ).loc main_v1_0) = outcome m c
    ∧ r.2.mem ((c : Thread nD τ).loc main_arg0) = m ((c : Thread nD τ).loc main_arg0)
    ∧ r.2.mem ((c : Thread nD τ).loc main_arg1) = m ((c : Thread nD τ).loc main_arg1)

/-- What device `c`'s own view of the end tells. -/
def Seen (c : Dev nD) (s : MemSt nD τ sig (Elt F)) : Prop :=
  (∀ sm : SemLoc sig, sm.isScoped .tc = false → s.sem ((c.tc : Thread nD τ), sm) = 0) ∧ s.mem ((c : Thread nD τ).loc main_v1_0) = outcome m c

theorem see (c : Dev nD) (s' : Phys nD τ sig (Elt F)) :
    iprop((unscopedSems0 c ∗ (((c : Thread nD τ).loc main_v1_0) ↦{fullShare} outcome m c)) ∗ SI s') ⊢ |={Set.univ}=> iprop(⌜Seen m c s'.mem⌝ ∗ SI s' : sProp 𝕄) := by
  iintro ⟨⟨Hu, Hv⟩, HSI⟩
  ihave ⟨%hv, HSI⟩ := (pointsTo_read_all (Ix := Unit) (Name := ℕ) (U := UU) (Lvl := ℕ) {()} (fun _ => (c : Thread nD τ).loc main_v1_0) (fun _ => outcome m c) s') $$ [Hv HSI]
  · isplitl [Hv]
    · rw [bigSep_singleton]; iexact Hv
    iexact HSI
  imod (Pipeline.unscopedSems0_read (X := unscopedSems0 c) (c := c) fupd_intro s') $$ [Hu HSI] with ⟨%hs, HSI⟩
  · isplitl [Hu] <;> iassumption
  imodintro
  isplitr
  · ipureintro; exact ⟨hs, hv () (Finset.mem_singleton_self _)⟩
  iexact HSI

set_option maxRecDepth 65536 in
/-- From any memory with zero counters, every fair execution of the four devices ends, each device's result as computed,
    the arrays read unchanged, and every counter zero. -/
theorem run_main : θ_run defs (onTc (τ := τ) (main (F := F))) (s₀ m ρ) (fun r => Left m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (inp m)) (G' := G' (inp m)) (u₀ := u₀)
    (hu₀ := by
      unfold u₀
      iintro Hu
      ihave ⟨HP, HX⟩ := (ownU_pair _ _) $$ Hu
      ihave HX := (own_cells (F := F)) $$ HX
      imod (fund_all (inp m)) $$ HX with HG
      imodintro
      isplitl [HP] <;> iassumption)
    (hglob := glob (inp m))
    (hA := fun _ _ => rfl) (hpf := fun _ k => k.elim0)
    (X := start m) (Y := fun c => iprop(unscopedSems0 c ∗ (((c : Thread nD τ).loc main_v1_0) ↦{fullShare} outcome m c))) (Z := fun _ => iprop(emp))
    (hX := start_intro m ρ) (hin := phi0_intro m) (hout := phi1_exit m)
    (QY := Seen m)
    (hY := fun c s' => by
      iintro ⟨Hu, -, HSI⟩
      iapply (see m c s')
      isplitl [Hu] <;> iassumption)
    (hQ := fun _ h hs => ⟨fun c => ⟨(h c).2.2.2,
      ((h c).1 (0 : Fin 2)).trans ((dats (F := F) m 0 c).arrAt_in (0 : Fin 2) rfl _),
      ((h c).1 (1 : Fin 2)).trans ((dats (F := F) m 0 c).arrAt_in (1 : Fin 2) rfl _)⟩, sem_eq_zero hs fun c => (h c).2.2.1⟩)

end Cert.KernelIdeal.Work

end
-- ==== Proof.Frames.lean ====
module

public import proofs.«01_k».proof.Proof.Launch
public import proofs.«01_k».proof.Defs
public import proofs.«01_k».proof.Proof.Gen.Kernel
public import proofs.«01_k».proof.Proof.Gen.ReferenceIdeal.Run
public import Idealize.ShloMosaic.Lib.Quiescent

@[expose] public section

set_option maxRecDepth 65536

noncomputable section

namespace Cert.Proof

open Idealize.ShloMosaic Idealize.SL.Sem

variable {F : FTy → Type} [FloatOps F]

/-- The two printed bodies are the same. -/
theorem bodies_eq : @Cert.Kernel.defs₀ F _ _ = @Cert.KernelIdeal.defs₀ F _ _ := by
  unfold Cert.Kernel.defs₀ Cert.KernelIdeal.defs₀
  refine congrArg _ (funext fun l => ?_)
  match l with
  | 0 => rfl

theorem defs_eq : @Cert.Kernel.defs F _ _ = @Cert.KernelIdeal.defs F _ _ :=
  congrArg (Pipeline.defs (Cert.KernelIdeal.pcfgs (F := F))) bodies_eq

/-- The kernel over its own floats runs, ends quiescent and leaves its arguments. -/
theorem frame_kernel : Cert.quiescent_Kernel := fun m ρ _ => by
  rw [defs_eq]
  exact (θ_run (Cert.KernelIdeal.defs (F := Bits)) _ _).mono (fun _ h => ⟨fun c => (h.1 c).2, h.2⟩) (Cert.KernelIdeal.Work.run_main (F := Bits) m ρ)

/-- The same kernel over the extended reals. -/
theorem frame_ideal : Cert.quiescent_KernelIdeal := fun m ρ _ =>
  (θ_run Cert.KernelIdeal.defs _ _).mono (fun _ h => ⟨fun c => (h.1 c).2, h.2⟩) (Cert.KernelIdeal.Work.run_main (F := Ideal) m ρ)

/-- The reference runs and leaves its arguments; it has no semaphore. -/
theorem frame_reference : Cert.quiescent_ReferenceIdeal := fun m ρ _ =>
  (θ_run (Cert.ReferenceIdeal.defs (F := Ideal)) _ _).mono (fun r h => ⟨fun c => (h c).2, sem_eq_zero_of_no_sems rfl r.2⟩) (Cert.ReferenceIdeal.Value.run (F := Ideal) m ρ)

end Cert.Proof

end
-- ==== Proof.Sums.lean ====
/-
  Over the extended reals: a device's tiles are partial sums over its quarter of the contracted
  axis, and the four partial sums a tile collects on its way round the ring are the whole sum.
-/
module

public import proofs.«01_k».proof.Proof.Values
public import Idealize.ShloMosaic.PureOps.Ideal.Laws
public import Idealize.ShloMosaic.Lib.ValueIdx
public import Idealize.ShloMosaic.Lib.MatmulPlain
public import Idealize.ShloMosaic.Lib.Layout
public import Idealize.ShloMosaic.Lib.Pipeline.Value

@[expose] public section

set_option maxRecDepth 16384

noncomputable section

namespace Cert.KernelIdeal.Work

open Idealize.ShloMosaic Idealize.ShloMosaic.ValueIdx
open Cert.KernelIdeal.Gen

/-- The two operands in whole, and one of the result's shape. -/
abbrev XArr := (⟨2, ![4096, 4096]⟩ : Shape).Idx → EReal
abbrev WArr := (⟨2, ![4096, 8192]⟩ : Shape).Idx → EReal

/-- The devices' blocks are the quarters of the two operands. -/
structure Cut (D : Inp Ideal) (X : XArr) (W : WArr) : Prop where
  x : ∀ c : Fin 4, D.x c = Layout.block ⟨2, ![4096, 1024]⟩ ⟨2, ![4096, 4096]⟩ 1 4 c X
  w : ∀ c : Fin 4, D.w c = Layout.block ⟨2, ![1024, 8192]⟩ ⟨2, ![4096, 8192]⟩ 0 4 c W

variable (X : XArr) (W : WArr)

/-- Position `k` of quarter `c` of the contracted axis. -/
def at4 (c : Fin 4) (k : Fin 1024) : Fin 4096 := ⟨c.val * 1024 + k.val, by omega⟩

/-- An entry of device `c`'s own product, and of the whole product. -/
def part (c : Fin 4) (i : Fin 4096) (j : Fin 8192) : EReal := ∑ k : Fin 1024, X (ix2 i (at4 c k)) * W (ix2 (at4 c k) j)
def tot (i : Fin 4096) (j : Fin 8192) : EReal := ∑ k : Fin 4096, X (ix2 i k) * W (ix2 k j)

theorem tot_eq (i : Fin 4096) (j : Fin 8192) : tot X W i j = ∑ c : Fin 4, part X W c i j := by
  unfold tot part
  rw [← Equiv.sum_comp (finProdFinEquiv (m := 4) (n := 1024)), Fintype.sum_prod_type]
  refine Finset.sum_congr rfl fun c _ => Finset.sum_congr rfl fun k _ => ?_
  have e : (finProdFinEquiv (c, k) : Fin (4 * 1024)) = at4 c k := Fin.ext (by
    show k.val + 1024 * c.val = c.val * 1024 + k.val
    omega)
  rw [e]

/-- Row `i` of rows `r`, and column `j` of columns `k`, in the whole result. -/
def rowAt (r : Fin 4) (i : Fin 1024) : Fin 4096 := ⟨1024 * r.val + i.val, by omega⟩
def colAt (k : Fin 4) (j : Fin 2048) : Fin 8192 := ⟨2048 * k.val + j.val, by omega⟩

variable {X W} {D : Inp Ideal}

theorem xrow_apply (h : Cut D X W) (c r : Fin 4) (i k : Fin 1024) :
    xrow (D.x c) r (ix2 i k) = X (ix2 (rowAt r i) (at4 c k)) := by
  rw [h.x c]
  show X _ = X _
  congr 1
  funext a
  fin_cases a
  · exact Fin.ext (by show 1024 * r.val + 1 * i.val = 1024 * r.val + i.val; omega)
  · exact Fin.ext (by show c.val * 1024 + (0 + 1 * k.val) = c.val * 1024 + k.val; omega)

theorem wcol_apply (h : Cut D X W) (c r : Fin 4) (k : Fin 1024) (j : Fin 2048) :
    wcol (D.w c) r (ix2 k j) = W (ix2 (at4 c k) (colAt r j)) := by
  rw [h.w c]
  show W _ = W _
  congr 1
  funext a
  fin_cases a
  · exact Fin.ext (by show c.val * 1024 + (0 + 1 * k.val) = c.val * 1024 + k.val; omega)
  · exact Fin.ext (by show 2048 * r.val + 1 * j.val = 2048 * r.val + j.val; omega)

theorem dot_plain : dot_S1024x1024_S1024x2048_S1024x2048_1_0_0_1_n_n = DotDims.plain 1024 1024 2048 := rfl

theorem mm_apply (h : Cut D X W) (c r k : Fin 4) (i : Fin 1024) (j : Fin 2048) :
    mm D c r k (ix2 i j) = part X W c (rowAt r i) (colAt k j) := by
  unfold mm k0_pay4
  simp only [shapeCast_self]
  show FloatOps.matmul (φ₁ := .bf16) (φ₂ := .bf16) dot_S1024x1024_S1024x2048_S1024x2048_1_0_0_1_n_n none (xrow (D.x c) r) (wcol (D.w c) k) (constant (F := Ideal) S1024x2048 .f32 0x00000000#32) (ix2 i j) = _
  rw [dot_plain, Ideal.matmul_plain_apply, constant_apply]
  show Ideal.ofBits .f32 0x00000000#32 + _ = _
  rw [Ideal.ofBits_zero_f32, zero_add]
  exact Finset.sum_congr rfl fun k' _ => congrArg₂ (· * ·) (xrow_apply h c r i k') (wcol_apply h c k k' j)

theorem pay20_apply (a b : FVec Ideal S1024x2048 .bf16) (i : S1024x2048.Idx) : k0_pay20 a b i = (a i + b i : EReal) := by
  unfold k0_pay20
  simp only [shapeCast_self]
  rfl

theorem rv2_apply (h : Cut D X W) (d p : Fin 2) (c : Fin 4) (i : Fin 1024) (j : Fin 2048) :
    (rv D d p 2 c (ix2 i j) : EReal) + own D d p c (ix2 i j) = tot X W (rowAt c i) (colAt (col d p) j) := by
  show (k0_pay20 (k0_pay20 (mm D (adv (adv (adv c d 1) d 1) d 1) (adv (adv (adv (adv c d 1) d 1) d 1) d 1) (col d p))
    (mm D (adv (adv c d 1) d 1) (adv (adv (adv c d 1) d 1) d (2 + 0)) (col d p)))
    (mm D (adv c d 1) (adv (adv c d 1) d (2 + 1)) (col d p)) (ix2 i j) : EReal) + mm D c (adv c d 4) (col d p) (ix2 i j) = _
  simp only [adv_adv, Nat.reduceAdd, adv_four, pay20_apply, mm_apply h]
  rw [tot_eq, Fin.sum_univ_four]
  revert d c
  intro d c
  fin_cases d <;> fin_cases c <;> simp only [adv] <;> simp <;> abel

end Cert.KernelIdeal.Work

end
-- ==== Proof.Numbers.lean ====
/-
  Facts of the extended reals behind the quantiser: a product with 127/g against a quotient by
  g/127, and a clipped rounded number carried as a byte.
-/
module

public import Idealize.ShloMosaic.PureOps.Ideal.Laws
public import Idealize.ShloMosaic.Lib.ValueIdx

@[expose] public section

noncomputable section

namespace Cert.KernelIdeal.Work

open Idealize.ShloMosaic

/-- The greatest byte the quantiser uses, as the literal of its word denotes it, and its opposite. -/
abbrev top127 : EReal := ((127 : ℝ) : EReal)
abbrev bot127 : EReal := ((-127 : ℝ) : EReal)

theorem word_127 : Ideal.ofBits .f32 0x42FE0000#32 = top127 := by
  simp [Ideal.ofBits, Ideal.ieee, -EReal.coe_mul]; norm_num
theorem word_n127 : Ideal.ofBits .f32 0xC2FE0000#32 = bot127 := by
  simp [Ideal.ofBits, Ideal.ieee, -EReal.coe_mul]; norm_num
theorem word_bot : Ideal.ofBits .f32 0xFF800000#32 = ⊥ := by
  simp [Ideal.ofBits, Ideal.ieee]

/-- Rounded to an integer, then clipped. -/
def clip (x : EReal) : EReal := min top127 (max bot127 (Ideal.liftRound Ideal.roundHalfEven x))

/-- A clipped number is an integer a byte holds. -/
theorem clip_int (x : EReal) : ∃ n : ℤ, -127 ≤ n ∧ n ≤ 127 ∧ clip x = ((n : ℝ) : EReal) := by
  have hr (k : ℤ) : ∃ n : ℤ, -127 ≤ n ∧ n ≤ 127 ∧ min top127 (max bot127 ((k : ℝ) : EReal)) = ((n : ℝ) : EReal) := by
    refine ⟨min 127 (max (-127) k), by omega, by omega, ?_⟩
    rw [← EReal.coe_strictMono.monotone.map_max, ← EReal.coe_strictMono.monotone.map_min]
    push_cast
    rfl
  unfold clip
  induction x using EReal.rec with
  | bot => exact ⟨-127, by omega, by omega, by
      show min top127 (max bot127 ⊥) = _
      rw [max_eq_left bot_le, min_eq_right (EReal.coe_le_coe_iff.mpr (by norm_num))]; push_cast; rfl⟩
  | coe r => exact hr _
  | top => exact ⟨127, by omega, by omega, by
      show min top127 (max bot127 ⊤) = _
      rw [max_eq_right le_top, min_eq_left le_top]; push_cast; rfl⟩

/-- Carried as a byte and read back, a clipped number is itself. -/
theorem clip_byte (x : EReal) : (((Ideal.fptosi 8 (clip x)).toInt : ℝ) : EReal) = clip x := by
  obtain ⟨n, h1, h2, h⟩ := clip_int x
  rw [h, Ideal.fptosi, Ideal.toIntClamped_coe, Int.floor_intCast, Int.ceil_intCast, ite_self]
  have e : max (-((2 ^ (8 - 1) : ℕ) : ℤ)) (min (((2 ^ (8 - 1) : ℕ) : ℤ) - 1) n) = n := by norm_num; omega
  rw [e, BitVec.toInt_ofInt_eq_self (by decide) (by norm_num; omega) (by norm_num; omega)]

/-- Multiplying by 127/g and dividing by g/127 quantise to the same numbers, whatever g ≥ 0. -/
theorem clip_scale (y g : EReal) (hg : 0 ≤ g) :
    clip (y * Ideal.div top127 g) * Ideal.div g top127 = clip (Ideal.div y (Ideal.div g top127)) * Ideal.div g top127 := by
  have h127 : Ideal.div g top127 = g * ((1 / 127 : ℝ) : EReal) := Ideal.div_coe (by norm_num) g
  by_cases h0 : g = 0
  · rw [h127, h0, zero_mul, mul_zero, mul_zero]
  have key : y * Ideal.div top127 g = Ideal.div y (Ideal.div g top127) := by
    rw [h127, Ideal.div, if_neg h0]
    induction g using EReal.rec with
    | bot => exact absurd hg (by simp)
    | top =>
      rw [EReal.top_mul_coe_of_pos (by norm_num), Ideal.div, if_neg EReal.top_ne_zero, EReal.inv_top, mul_zero]
    | coe r =>
      have hr : r ≠ 0 := fun h => h0 (by rw [h]; rfl)
      rw [← EReal.coe_mul, Ideal.div_coe (by positivity), ← EReal.coe_inv, ← EReal.coe_mul]
      congr 2
      field_simp
  rw [key]

end Cert.KernelIdeal.Work

end
-- ==== Proof.Maxima.lean ====
/-
  Over the extended reals: the tiles a device ends up with are its rows of the rectified product,
  and the maximum every device arrives at is that of the whole rectified product.
-/
module

public import proofs.«01_k».proof.Proof.Sums
public import proofs.«01_k».proof.Proof.Numbers

@[expose] public section

set_option maxRecDepth 16384

noncomputable section

namespace Cert.KernelIdeal.Work

open Idealize.ShloMosaic Idealize.ShloMosaic.ValueIdx
open Cert.KernelIdeal.Gen

/-! ## Maxima, by what bounds them -/

theorem fold_maximumf_le {ι : Type} (s : Finset ι) (b : EReal) (f : ι → EReal) (B : EReal) :
    s.fold (FloatOps.maximumf (F := Ideal) (φ := .f32)) b f ≤ B ↔ b ≤ B ∧ ∀ i ∈ s, f i ≤ B :=
  Finset.fold_max_le (f := f) B

/-- Laid out anew, an array has the same entries. -/
theorem cast_le {s t : Shape} (h : s.ShapeCasts t) (v : s.Idx → EReal) (B : EReal) :
    (∀ i, shapeCast t v h i ≤ B) ↔ ∀ i, v i ≤ B := by
  refine ⟨fun H i => ?_, fun H i => H _⟩
  have := H ((Shape.reshapeEquiv h).symm i)
  unfold shapeCast at this
  rwa [Equiv.apply_symm_apply] at this

variable {a b : ℕ}

/-- The greatest entry of a matrix, as the kernel takes it: over both axes of its one-page stack. -/
def most (hr : (⟨3, ![1, a, b]⟩ : Shape).Reduces [1, 2] S1) (hc : (⟨2, ![a, b]⟩ : Shape).ShapeCasts ⟨3, ![1, a, b]⟩)
    (v : FVec Ideal ⟨2, ![a, b]⟩ .f32) : Ideal .f32 :=
  extractAt ![0, 0, 0] (shapeCast S1x1x1 (multiReduction .maximumf [1, 2] S1 (shapeCast ⟨3, ![1, a, b]⟩ v hc)
    0xFF800000#32 hr (.inl rfl) rfl) shapeCasts_S1_S1x1x1) inpos_S1x1x1_p0_0_0

theorem one_entry (x y : S1.Idx) : x = y := by
  funext t
  have hx : (x t).val < S1.size t := (x t).isLt
  have hy : (y t).val < S1.size t := (y t).isLt
  have e : S1.size t = 1 := by fin_cases t; rfl
  exact Fin.ext (by omega)

/-- A maximum over two axes into a single entry is bounded by what bounds every entry. -/
theorem red_le (hr : (⟨3, ![1, a, b]⟩ : Shape).Reduces [1, 2] S1) (hφ hacc)
    (src : FVec Ideal ⟨3, ![1, a, b]⟩ .f32) (j : S1.Idx) (B : EReal) :
    multiReduction .maximumf [1, 2] S1 src 0xFF800000#32 hr hφ hacc j ≤ B ↔ ∀ i, (src i : EReal) ≤ B := by
  rw [multiReduction_maximumf_eq_fold]
  refine (fold_maximumf_le _ _ _ _).trans ⟨fun h i => h.2 i (Finset.mem_filter.mpr ⟨Finset.mem_univ _, one_entry _ _⟩), fun h => ⟨?_, fun i _ => h i⟩⟩
  show Ideal.ofBits .f32 0xFF800000#32 ≤ B
  rw [word_bot]
  exact bot_le

theorem most_le (hr : (⟨3, ![1, a, b]⟩ : Shape).Reduces [1, 2] S1) (hc : (⟨2, ![a, b]⟩ : Shape).ShapeCasts ⟨3, ![1, a, b]⟩)
    (v : FVec Ideal ⟨2, ![a, b]⟩ .f32) (B : EReal) : most hr hc v ≤ B ↔ ∀ i, (v i : EReal) ≤ B := by
  unfold most extractAt shapeCast
  exact (red_le hr _ _ _ _ B).trans (cast_le hc v B)

/-- The greatest entry of a tile, and of the rows of maxima. -/
abbrev tmost (v : FVec Ideal S1024x2048 .f32) : Ideal .f32 := most reduces_S1x1024x2048_S1 shapeCasts_S1024x2048_S1x1024x2048 v
abbrev rmost (v : FVec Ideal S4x128 .f32) : Ideal .f32 := most reduces_S1x4x128_S1 shapeCasts_S4x128_S1x4x128 v

theorem pay36_eq (x y : Vec Ideal S1024x2048 .bf16) : k0_pay36 x y = k0_pay33 x y := by unfold k0_pay36 k0_pay33; rfl
theorem pay30_eq (x y : Vec Ideal S1024x2048 .bf16) : k0_pay30 x y = tmost (k0_pay33 x y) := by
  unfold k0_pay30 tmost most k0_pay29 k0_pay33; rfl
theorem pay34_eq (m : Ideal .f32) (x y : Vec Ideal S1024x2048 .bf16) : k0_pay34 m x y = Scalar.maximumf m (tmost (k0_pay33 x y)) := by
  unfold k0_pay34 tmost most; rfl
theorem pay37_eq (m : Ideal .f32) (v : FVec Ideal S1024x2048 .f32) : k0_pay37 m v = Scalar.maximumf m (tmost v) := by
  unfold k0_pay37 tmost most; rfl
theorem pay40_eq (m : Ideal .f32) (x y : Vec Ideal S1024x2048 .bf16) : k0_pay40 m x y = Scalar.maximumf m (tmost (k0_pay33 x y)) := by
  unfold k0_pay40 tmost most k0_pay39 k0_pay33; rfl
theorem pay43_eq (m : Ideal .f32) (v : Vec Ideal S4x128 .f32) : k0_pay43 m v = Scalar.maximumf (rmost v) m := by
  unfold k0_pay43 rmost most; rfl

theorem smax_le (x y : Ideal .f32) (B : EReal) : Scalar.maximumf x y ≤ B ↔ (x : EReal) ≤ B ∧ (y : EReal) ≤ B :=
  max_le_iff (a := (x : EReal)) (b := y) (c := B)

/-! ## A device's tiles -/

variable (X : XArr) (W : WArr)

/-- An entry of the rectified product, and the greatest of them. -/
def rect (i : Fin 4096) (j : Fin 8192) : EReal := max (tot X W i j) 0
def peak : EReal := ⨆ i, ⨆ j, rect X W i j

theorem rect_nonneg (i : Fin 4096) (j : Fin 8192) : 0 ≤ rect X W i j := le_max_right _ _

theorem peak_le (B : EReal) : peak X W ≤ B ↔ ∀ i j, rect X W i j ≤ B := by
  unfold peak
  simp only [iSup_le_iff]

theorem peak_nonneg : 0 ≤ peak X W := (rect_nonneg X W 0 0).trans ((peak_le X W _).mp le_rfl 0 0)

variable {X W} {D : Inp Ideal}

theorem pay33_apply (h : Cut D X W) (d p : Fin 2) (c : Fin 4) (i : Fin 1024) (j : Fin 2048) :
    k0_pay33 (rv D d p 2 c) (own D d p c) (ix2 i j) = rect X W (rowAt c i) (colAt (col d p) j) := by
  show max ((rv D d p 2 c (ix2 i j) : EReal) + own D d p c (ix2 i j)) (Ideal.ofBits .f32 0x00000000#32) = _
  rw [Ideal.ofBits_zero_f32, rv2_apply h]
  rfl

theorem fin_apply (h : Cut D X W) (d p : Fin 2) (c : Fin 4) (i : Fin 1024) (j : Fin 2048) :
    fin D d p c (ix2 i j) = rect X W (rowAt c i) (colAt (col d p) j) := by
  unfold fin k0_pay35
  simp only [shapeCast_self]
  exact pay33_apply h d p c i j

/-- What one tile's maximum is bounded by. -/
theorem tile_le (h : Cut D X W) (d p : Fin 2) (k : Fin 4) (hk : col d p = k) (c : Fin 4) (B : EReal) :
    tmost (k0_pay33 (rv D d p 2 c) (own D d p c)) ≤ B ↔ ∀ i j, rect X W (rowAt c i) (colAt k j) ≤ B := by
  rw [most_le, ← hk]
  refine ⟨fun H i j => ?_, fun H x => ?_⟩
  · rw [← pay33_apply h]; exact H (ix2 i j)
  · rw [eq_ix2 x]
    exact (pay33_apply h d p c (x 0) (x 1)).le.trans (H _ _)

/-- A device's maximum, tile by tile. -/
theorem mx_eq (D : Inp Ideal) (c : Fin 4) : mx D c =
    Scalar.maximumf (Scalar.maximumf (Scalar.maximumf (tmost (k0_pay33 (rv D 0 0 2 c) (own D 0 0 c)))
      (tmost (k0_pay33 (rv D 1 0 2 c) (own D 1 0 c)))) (tmost (k0_pay33 (rv D 0 1 2 c) (own D 0 1 c)))) (tmost (k0_pay33 (rv D 1 1 2 c) (own D 1 1 c))) := by
  unfold mx
  rw [pay40_eq, pay37_eq, pay34_eq, pay30_eq, pay36_eq]

theorem four_le (x y z w : Ideal .f32) (B : EReal) : Scalar.maximumf (Scalar.maximumf (Scalar.maximumf x y) z) w ≤ B ↔
   (((x : EReal) ≤ B ∧ (y : EReal) ≤ B) ∧ (z : EReal) ≤ B) ∧ (w : EReal) ≤ B := by
  rw [smax_le, smax_le, smax_le]

theorem mx_le_tiles (h : Cut D X W) (c : Fin 4) (B : EReal) : mx D c ≤ B ↔
    (((∀ i j, rect X W (rowAt c i) (colAt 0 j) ≤ B) ∧ (∀ i j, rect X W (rowAt c i) (colAt 2 j) ≤ B))
      ∧ (∀ i j, rect X W (rowAt c i) (colAt 1 j) ≤ B)) ∧ (∀ i j, rect X W (rowAt c i) (colAt 3 j) ≤ B) := by
  rw [mx_eq]
  exact (four_le _ _ _ _ B).trans (and_congr (and_congr (and_congr (tile_le h 0 0 0 (by decide) c B) (tile_le h 1 0 2 (by decide) c B))
    (tile_le h 0 1 1 (by decide) c B)) (tile_le h 1 1 3 (by decide) c B))

/-- What a device's maximum is bounded by. -/
theorem mx_le (h : Cut D X W) (c : Fin 4) (B : EReal) :
    mx D c ≤ B ↔ ∀ (i : Fin 1024) (k : Fin 4) (j : Fin 2048), rect X W (rowAt c i) (colAt k j) ≤ B := by
  rw [mx_le_tiles h]
  constructor
  · rintro ⟨⟨⟨h0, h2⟩, h1⟩, h3⟩ i k
    have hall : ∀ k : Fin 4, k = 0 ∨ k = 1 ∨ k = 2 ∨ k = 3 := by decide
    rcases hall k with e | e | e | e <;> rw [e]
    · exact h0 i
    · exact h1 i
    · exact h2 i
    · exact h3 i
  · intro H
    exact ⟨⟨⟨fun i j => H i 0 j, fun i j => H i 2 j⟩, fun i j => H i 1 j⟩, fun i j => H i 3 j⟩

theorem pay42_apply (m : Ideal .f32) (j : S1x128.Idx) : k0_pay42 m j = m := by
  unfold k0_pay42
  simp only [shapeCast_self]
  exact broadcast_apply _ _

theorem pay3_apply (j : S4x128.Idx) : (k0_pay3 (F := Ideal) j : EReal) = 0 := by
  unfold k0_pay3
  simp only [shapeCast_self]
  exact (broadcast_apply _ _).trans Ideal.ofBits_zero_f32

theorem rows_apply (c : Fin 4) (i : S4x128.Idx) :
    (rows D c i : EReal) = if (i 0).val = 3 then 0 else mx D (adv c 0 (1 + (i 0).val)) := by
  unfold rows
  by_cases e : (i 0).val = 3
  · rw [if_pos e, if_pos e]
    exact pay3_apply i
  · rw [if_neg e, if_neg e]
    unfold amv
    exact pay42_apply _ _

/-- Every row and column is one of some device's tile. -/
theorem every (P : Fin 4096 → Fin 8192 → Prop) :
    (∀ i j, P i j) ↔ ∀ (e : Fin 4) (i : Fin 1024) (k : Fin 4) (j : Fin 2048), P (rowAt e i) (colAt k j) := by
  refine ⟨fun H e i k j => H _ _, fun H i j => ?_⟩
  have hi : i = rowAt ⟨i.val / 1024, by omega⟩ ⟨i.val % 1024, by omega⟩ := Fin.ext (by
    show i.val = 1024 * (i.val / 1024) + i.val % 1024; omega)
  have hj : j = colAt ⟨j.val / 2048, by omega⟩ ⟨j.val % 2048, by omega⟩ := Fin.ext (by
    show j.val = 2048 * (j.val / 2048) + j.val % 2048; omega)
  rw [hi, hj]
  exact H _ _ _ _

/-- The maximum every device arrives at. -/
theorem all_max (h : Cut D X W) (c : Fin 4) : (k0_pay43 (mx D c) (rows D c) : EReal) = peak X W := by
  refine eq_of_forall_ge_iff fun B => ?_
  rw [peak_le, every, pay43_eq, smax_le, most_le]
  refine ⟨fun H e i k j => ?_, fun H => ⟨fun x => ?_, (mx_le h c B).mpr (H c)⟩⟩
  · have hm : ∀ e, mx D e ≤ B := by
      intro e
      have hx : ∀ s : Fin 4, s.val ≠ 3 → mx D (adv c 0 (1 + s.val)) ≤ B := fun s hs => by
        have := H.1 (ix2 s (0 : Fin 128))
        rwa [rows_apply, if_neg hs] at this
      have ee : e = c ∨ e = adv c 0 (1 + 0) ∨ e = adv c 0 (1 + 1) ∨ e = adv c 0 (1 + 2) := by
        exact (by decide : ∀ e c : Fin 4, e = c ∨ e = adv c 0 (1 + 0) ∨ e = adv c 0 (1 + 1) ∨ e = adv c 0 (1 + 2)) e c
      rcases ee with rfl | rfl | rfl | rfl
      · exact H.2
      · exact hx 0 (by decide)
      · exact hx 1 (by decide)
      · exact hx 2 (by decide)
    exact (mx_le h e B).mp (hm e) i k j
  · rw [rows_apply]
    split
    · exact (rect_nonneg X W _ _).trans (H 0 0 0 0)
    · exact (mx_le h _ B).mpr (H _)

theorem scale_eq (h : Cut D X W) (c : Fin 4) : (scale D c : EReal) = Ideal.div (peak X W) top127 := by
  unfold scale k0_pay44
  rw [all_max h, ← word_127]
  rfl

theorem inv_eq (h : Cut D X W) (c : Fin 4) : (inv D c : EReal) = Ideal.div top127 (peak X W) := by
  unfold inv k0_pay45
  rw [all_max h, ← word_127]
  rfl

end Cert.KernelIdeal.Work

end
-- ==== Proof.Quant.lean ====
/-
  Over the extended reals: what every device's result holds is the rectified product, quantised by
  the maximum of the whole and scaled back.
-/
module

public import proofs.«01_k».proof.Proof.Maxima

@[expose] public section

set_option maxRecDepth 16384

noncomputable section

namespace Cert.KernelIdeal.Work

open Idealize.ShloMosaic Idealize.ShloMosaic.ValueIdx
open Cert.KernelIdeal.Gen

/-! ## The quantiser's steps at an entry -/

section Steps

variable (s r : Ideal .f32) (v : Vec Ideal S1024x2048 .bf16) (i : S1024x2048.Idx)

theorem pay50_apply : k0_pay50 r v i = clip ((v i : EReal) * r) := by
  unfold k0_pay50 clip
  rw [← word_127, ← word_n127]
  rfl

theorem pay51_apply : k0_pay51 r v i = Ideal.fptosi 8 (clip ((v i : EReal) * r)) := by
  unfold k0_pay51
  simp only [shapeCast_self]
  rw [← pay50_apply]
  rfl

theorem pay52_apply : k0_pay52 s r v i = clip ((v i : EReal) * r) * (s : EReal) := by
  unfold k0_pay52
  simp only [shapeCast_self]
  rw [← pay50_apply]
  rfl

theorem pay59_apply (q : Vec Ideal S1024x2048 .i8) : k0_pay59 s q i = (((q i : BitVec 8).toInt : ℝ) : EReal) * (s : EReal) := by
  unfold k0_pay59
  simp only [shapeCast_self]
  rfl

end Steps

/-! ## The result -/

variable (X : XArr) (W : WArr)

/-- An entry of the result: the rectified product's, over the scale, rounded, clipped and scaled back. -/
def deq (i : Fin 4096) (j : Fin 8192) : EReal :=
  clip (Ideal.div (rect X W i j) (Ideal.div (peak X W) top127)) * Ideal.div (peak X W) top127

variable {X W} {D : Inp Ideal}

theorem ov_apply (h : Cut D X W) (d p : Fin 2) (c : Fin 4) (i : Fin 1024) (j : Fin 2048) :
    ov D d p c (ix2 i j) = deq X W (rowAt c i) (colAt (col d p) j) := by
  unfold ov
  rw [pay52_apply, fin_apply h, scale_eq h, inv_eq h, clip_scale _ _ (peak_nonneg X W)]
  rfl

theorem dv_apply (h : Cut D X W) (d p : Fin 2) (c e : Fin 4) (i : Fin 1024) (j : Fin 2048) :
    dv D d p c e (ix2 i j) = deq X W (rowAt e i) (colAt (col d p) j) := by
  unfold dv qv
  rw [pay59_apply, pay51_apply, clip_byte, fin_apply h, scale_eq h, inv_eq h, clip_scale _ _ (peak_nonneg X W)]
  rfl

theorem col_split : ∀ k : Fin 4, col ⟨k.val / 2, by have := k.isLt; omega⟩ ⟨k.val % 2, by omega⟩ = k := by decide

theorem outv_apply (h : Cut D X W) (c r k : Fin 4) (i : Fin 1024) (j : Fin 2048) :
    outv D c r k (ix2 i j) = deq X W (rowAt r i) (colAt k j) := by
  unfold outv
  by_cases e : r = c
  · rw [if_pos e, ov_apply h, col_split, e]
  · rw [if_neg e, dv_apply h, col_split]

theorem result_apply (h : Cut D X W) (c : Fin 4) (x : S4096x8192.Idx) : result D c x = deq X W (x 0) (x 1) := by
  have h0 : (x 0).val < 4096 := (x 0).isLt
  have h1 : (x 1).val < 8192 := (x 1).isLt
  unfold result
  have et : tix ⟨(x 0).val % 1024, Nat.mod_lt _ (by decide)⟩ ⟨(x 1).val % 2048, Nat.mod_lt _ (by decide)⟩
      = ix2 (⟨(x 0).val % 1024, Nat.mod_lt _ (by decide)⟩ : Fin 1024) (⟨(x 1).val % 2048, Nat.mod_lt _ (by decide)⟩ : Fin 2048) := by
    funext a
    fin_cases a <;> rfl
  rw [et, outv_apply h]
  have e0 : rowAt (tileOf x).1 ⟨(x 0).val % 1024, Nat.mod_lt _ (by decide)⟩ = x 0 := Fin.ext (by
    show 1024 * ((x 0).val / 1024) + (x 0).val % 1024 = (x 0).val
    omega)
  have e1 : colAt (tileOf x).2 ⟨(x 1).val % 2048, Nat.mod_lt _ (by decide)⟩ = x 1 := Fin.ext (by
    show 2048 * ((x 1).val / 2048) + (x 1).val % 2048 = (x 1).val
    omega)
  rw [e0, e1]

end Cert.KernelIdeal.Work

end
-- ==== Proof.RefValue.lean ====
/-
  Over the extended reals: the reference's composed term, entry by entry.
-/
module

public import proofs.«01_k».proof.Proof.Quant
public import proofs.«01_k».proof.Proof.Gen.ReferenceIdeal.Run
public import Idealize.ShloMosaic.Lib.StackMember
public import Idealize.ShloMosaic.Lib.IdealHost

@[expose] public section

set_option maxRecDepth 16384

noncomputable section

namespace Cert.KernelIdeal.Work

open Idealize.ShloMosaic Idealize.ShloMosaic.ValueIdx Idealize.ShloMosaic.StackMember
open Cert.ReferenceIdeal Cert.ReferenceIdeal.Gen

variable (X : XArr) (W : WArr)

/-- The reference's rectified product, the scale it takes from its maximum, and its result. -/
def refY : FVec Ideal Cert.ReferenceIdeal.S4096x8192 .f32 :=
  maximumf (Host.dotGeneral (F := Ideal) (φ₁ := .bf16) (φ₂ := .bf16) dot_S4096x4096_S4096x8192_S4096x8192_1_0_0_1_n_n none X W)
    (broadcastInDim Cert.ReferenceIdeal.S4096x8192 ![] bcast_S_S4096x8192 (constant S_ .f32 0x00000000#32))

def refMax (Y : FVec Ideal Cert.ReferenceIdeal.S4096x8192 .f32) : FVec Ideal S_ .f32 :=
  Host.reduce FloatOps.maximumf (Host.absf Y) (constant S_ .f32 0xFF800000#32) reducesTo_S4096x8192_S_d0_1 h_S_

def refScale (M : FVec Ideal S_ .f32) : FVec Ideal Cert.ReferenceIdeal.S4096x8192 .f32 :=
  broadcastInDim Cert.ReferenceIdeal.S4096x8192 ![] bcast_S_S4096x8192 (Host.divf M (constant S_ .f32 0x42FE0000#32))

def refOut (Y s : FVec Ideal Cert.ReferenceIdeal.S4096x8192 .f32) : FVec Ideal Cert.ReferenceIdeal.S4096x8192 .bf16 :=
  truncf .bf16 (mulf (minimumf (broadcastInDim Cert.ReferenceIdeal.S4096x8192 ![] bcast_S_S4096x8192 (id (constant S_ .f32 0x42FE0000#32)))
    (maximumf (broadcastInDim Cert.ReferenceIdeal.S4096x8192 ![] bcast_S_S4096x8192 (id (constant S_ .f32 0xC2FE0000#32)))
      (Host.roundeven (Host.divf Y s)))) s) bitsLt_bf16_f32

theorem ref_dot_plain : dot_S4096x4096_S4096x8192_S4096x8192_1_0_0_1_n_n = DotDims.plain 4096 4096 8192 := rfl

theorem refY_apply (i : Fin 4096) (j : Fin 8192) : refY X W (ix2 i j) = rect X W i j := by
  unfold refY
  rw [maximumf_apply, ref_dot_plain, dotGeneral_plain_apply, broadcastInDim_scalar_apply, constant_apply]
  show max (tot X W i j) (Ideal.ofBits .f32 0x00000000#32) = _
  rw [Ideal.ofBits_zero_f32]
  rfl

theorem no_axes (x y : S_.Idx) : x = y := funext fun a => a.elim0

theorem absf_nonneg (y : EReal) (h : 0 ≤ y) : max y (-y) = y :=
  max_eq_left ((EReal.neg_le_neg_iff.mpr h).trans (by rw [neg_zero]; exact h))

theorem refMax_apply (Y : FVec Ideal Cert.ReferenceIdeal.S4096x8192 .f32) (hY : ∀ i j, Y (ix2 i j) = rect X W i j) (o : S_.Idx) :
    refMax Y o = peak X W := by
  refine eq_of_forall_ge_iff fun B => ?_
  rw [peak_le]
  unfold refMax
  rw [Host.reduce_eq_fold]
  refine (fold_maximumf_le _ _ _ B).trans ⟨fun H i j => ?_, fun H => ⟨?_, fun x _ => ?_⟩⟩
  · have := H.2 (ix2 i j) (Finset.mem_filter.mpr ⟨Finset.mem_univ _, no_axes _ _⟩)
    change max (Y (ix2 i j) : EReal) (-(Y (ix2 i j) : EReal)) ≤ B at this
    rwa [hY, absf_nonneg _ (rect_nonneg X W i j)] at this
  · show Ideal.ofBits .f32 0xFF800000#32 ≤ B
    rw [word_bot]
    exact bot_le
  · obtain ⟨i, j, rfl⟩ : ∃ (i : Fin 4096) (j : Fin 8192), x = ix2 i j := ⟨x 0, x 1, eq_ix2 x⟩
    show max (Y (ix2 i j) : EReal) (-(Y (ix2 i j) : EReal)) ≤ B
    rw [hY, absf_nonneg _ (rect_nonneg X W _ _)]
    exact H _ _

theorem refScale_apply (M : FVec Ideal S_ .f32) (g : EReal) (hM : ∀ o, M o = g) (x : Cert.ReferenceIdeal.S4096x8192.Idx) :
    refScale M x = Ideal.div g top127 := by
  unfold refScale
  rw [broadcastInDim_scalar_apply, hostDivf_apply, constant_apply, hM, ← word_127]

theorem refOut_apply (Y s : FVec Ideal Cert.ReferenceIdeal.S4096x8192 .f32) (x : Cert.ReferenceIdeal.S4096x8192.Idx) :
    refOut Y s x = clip (Ideal.div (Y x) (s x)) * (s x : EReal) := by
  unfold refOut
  rw [truncf_apply, mulf_apply, minimumf_apply, maximumf_apply, broadcastInDim_scalar_apply, broadcastInDim_scalar_apply, id, id, constant_apply, constant_apply]
  unfold clip
  rw [← word_127, ← word_n127]
  rfl

/-- The reference's result, entry by entry. -/
theorem ref_apply (x : Cert.ReferenceIdeal.S4096x8192.Idx) :
    refOut (refY X W) (refScale (refMax (refY X W))) x = deq X W (x 0) (x 1) := by
  obtain ⟨i, j, rfl⟩ : ∃ (i : Fin 4096) (j : Fin 8192), x = ix2 i j := ⟨x 0, x 1, eq_ix2 x⟩
  rw [refOut_apply, refScale_apply _ _ (refMax_apply X W _ (refY_apply X W)), refY_apply]
  rfl

end Cert.KernelIdeal.Work

end
-- ==== Proof.Equal.lean ====
/-
  The value claim: over the extended reals every device's result is the reference's.
-/
module

public import proofs.«01_k».proof.Proof.Frames
public import proofs.«01_k».proof.Proof.RefValue

@[expose] public section

set_option maxRecDepth 16384

noncomputable section

namespace Cert.Proof

open Idealize.ShloMosaic Idealize.ShloMosaic.TcCoe Idealize.SL.Sem
open Cert.KernelIdeal.Work

variable {F : FTy → Type} [FloatOps F]

/-- The staged blocks are the whole of the arguments. -/
theorem inp_x (m : (ℓ : Loc Cert.KernelIdeal.nD Cert.KernelIdeal.τ Cert.KernelIdeal.sig) → Buf (Elt F) ℓ) (c : Dev Cert.KernelIdeal.nD) :
    (inp m).x c = m ((c : Thread Cert.KernelIdeal.nD Cert.KernelIdeal.τ).loc Cert.KernelIdeal.main_arg0) := by
  funext i
  show m ((c : Thread Cert.KernelIdeal.nD Cert.KernelIdeal.τ).loc Cert.KernelIdeal.main_arg0) _ = _
  congr 1
  funext a
  fin_cases a
  · exact Fin.ext (by show 0 + 1 * (i 0).val = (i 0).val; omega)
  · exact Fin.ext (by show 0 + 1 * (i 1).val = (i 1).val; omega)

theorem inp_w (m : (ℓ : Loc Cert.KernelIdeal.nD Cert.KernelIdeal.τ Cert.KernelIdeal.sig) → Buf (Elt F) ℓ) (c : Dev Cert.KernelIdeal.nD) :
    (inp m).w c = m ((c : Thread Cert.KernelIdeal.nD Cert.KernelIdeal.τ).loc Cert.KernelIdeal.main_arg1) := by
  funext i
  show m ((c : Thread Cert.KernelIdeal.nD Cert.KernelIdeal.τ).loc Cert.KernelIdeal.main_arg1) _ = _
  congr 1
  funext a
  fin_cases a
  · exact Fin.ext (by show 0 + 1 * (i 0).val = (i 0).val; omega)
  · exact Fin.ext (by show 0 + 1 * (i 1).val = (i 1).val; omega)

/-- Both programs run, and every device ends with the reference's result. -/
theorem value : Cert.algebraic_KernelIdeal_ReferenceIdeal := fun m g m' g' _ hm => by
  have hcut : Cut (inp m) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) :=
    ⟨fun c => (inp_x m c).trans (hm c).1, fun c => (inp_w m c).trans (hm c).2⟩
  refine ⟨_, (θ_run (Cert.KernelIdeal.defs (F := Ideal)) _ _).mono (fun _ h c => ⟨(h.1 c).1.trans ?_, (h.1 c).2⟩) (run_main (F := Ideal) m g),
    (θ_run (Cert.ReferenceIdeal.defs (F := Ideal)) _ _).mono (fun _ h => h 0) (Cert.ReferenceIdeal.Value.run (F := Ideal) m' g')⟩
  funext x
  exact (result_apply hcut c x).trans (ref_apply _ _ x).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, value⟩

end Cert.Proof

end
